-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![8192, 2048]⟩ ⟨2, ![8192, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048 : Shape := ⟨1, ![2048]⟩
abbrev S64x128 : Shape := ⟨2, ![64, 128]⟩
abbrev S1024x2048 : Shape := ⟨2, ![1024, 2048]⟩
abbrev S4x64x128 : Shape := ⟨3, ![4, 64, 128]⟩
abbrev S3 : Shape := ⟨1, ![3]⟩
abbrev S1024 : Shape := ⟨1, ![1024]⟩
abbrev S1024x1 : Shape := ⟨2, ![1024, 1]⟩
abbrev S1024x128 : Shape := ⟨2, ![1024, 128]⟩
abbrev S8x1024 : Shape := ⟨2, ![8, 1024]⟩
abbrev S8x128 : Shape := ⟨2, ![8, 128]⟩
abbrev S1x8x128 : Shape := ⟨3, ![1, 8, 128]⟩
abbrev S_ : Shape := ⟨0, ![]⟩
abbrev S1 : Shape := ⟨1, ![1]⟩
abbrev S1x64x128 : Shape := ⟨3, ![1, 64, 128]⟩
abbrev S8192x1 : Shape := ⟨2, ![8192, 1]⟩
abbrev S1x2048 : Shape := ⟨2, ![1, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S64x128, .f32⟩
  | .hbm, ⟨3, _⟩ => ⟨S8192x1, .f32⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S64x128, .f32⟩
  | .local _ .vmem, ⟨3, _⟩ => ⟨S4x64x128, .f32⟩
  | .local _ .vmem, ⟨4, _⟩ => ⟨S1024x2048, .f32⟩
  | .local _ .vmem, ⟨5, _⟩ => ⟨S1024x2048, .f32⟩
  | .local _ .vmem, ⟨6, _⟩ => ⟨S1024x1, .f32⟩
  | .local _ .vmem, ⟨7, _⟩ => ⟨S1024x1, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev barrier0 : Sem sig := 0

abbrev nD : Nat := 4
abbrev τ : Topo := Topo.v7x

variable {F : FTy → Type} [FloatOps F]

abbrev grid0 : Pipeline.Grid := ⟨1, ![8], ![false]⟩

def k0_off1 (i : grid0.Coords) : Fin 3 → Nat :=
  let c0_16 : Index := 0#32
  let arg0 : BitVec 32 := BitVec.ofNat 32 (i 0).val
  let c8_i32 : BitVec 32 := 8#32
  let v62 : BitVec 32 := Scalar.muli arg0 c8_i32
  let v63 : Index := Scalar.indexCast v62
  let c0_17 : Index := 0#32
  ![0, v63.toNat, 0]
def k0_cond1 (i : grid0.Coords) : BitVec 1 :=
  let arg0 : BitVec 32 := BitVec.ofNat 32 (i 0).val
  let c7_i32 : BitVec 32 := 7#32
  let v67 : BitVec 1 := Scalar.cmpi .eq arg0 c7_i32
  let v68 : BitVec 32 := Scalar.extui v67
  let c0_i32_18 : BitVec 32 := 0#32
  let v69 : BitVec 1 := Scalar.cmpi .ne v68 c0_i32_18
  v69

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v71 : BitVec 32 := Scalar.addi v2 c1_i32_19
  let c4_i32_20 : BitVec 32 := 4#32
  let v72 : BitVec 32 := Scalar.remsi v71 c4_i32_20
  let c1_i32_22 : BitVec 32 := 1#32
  let v73 : BitVec 32 := Scalar.muli v72 c1_i32_22
  let v74 : BitVec 32 := Scalar.addi c0_i32_23 v73
  v74.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v75 : BitVec 32 := Scalar.addi v2 c2_i32
  let c4_i32_24 : BitVec 32 := 4#32
  let v76 : BitVec 32 := Scalar.remsi v75 c4_i32_24
  let c1_i32_26 : BitVec 32 := 1#32
  let v77 : BitVec 32 := Scalar.muli v76 c1_i32_26
  let v78 : BitVec 32 := Scalar.addi c0_i32_27 v77
  v78.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v79 : BitVec 32 := Scalar.addi v2 c3_i32
  let c4_i32_28 : BitVec 32 := 4#32
  let v80 : BitVec 32 := Scalar.remsi v79 c4_i32_28
  let c1_i32_30 : BitVec 32 := 1#32
  let v81 : BitVec 32 := Scalar.muli v80 c1_i32_30
  let v82 : BitVec 32 := Scalar.addi c0_i32_31 v81
  v82.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v83 : BitVec 32 := Scalar.addi v2 c1_i32_33
  let c4_i32_34 : BitVec 32 := 4#32
  let v84 : BitVec 32 := Scalar.remsi v83 c4_i32_34
  let c1_i32_39 : BitVec 32 := 1#32
  let v85 : BitVec 32 := Scalar.muli v84 c1_i32_39
  let v86 : BitVec 32 := Scalar.addi c0_i32_40 v85
  v86.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v95 : BitVec 32 := Scalar.addi v2 c2_i32_45
  let c4_i32_46 : BitVec 32 := 4#32
  let v96 : BitVec 32 := Scalar.remsi v95 c4_i32_46
  let c1_i32_51 : BitVec 32 := 1#32
  let v97 : BitVec 32 := Scalar.muli v96 c1_i32_51
  let v98 : BitVec 32 := Scalar.addi c0_i32_52 v97
  v98.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v107 : BitVec 32 := Scalar.addi v2 c3_i32_57
  let c4_i32_58 : BitVec 32 := 4#32
  let v108 : BitVec 32 := Scalar.remsi v107 c4_i32_58
  let c1_i32_63 : BitVec 32 := 1#32
  let v109 : BitVec 32 := Scalar.muli v108 c1_i32_63
  let v110 : BitVec 32 := Scalar.addi c0_i32_64 v109
  v110.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KernelIdeal.Contents.lean ====
/-
  The all-reduce of the first kernel region: who sends to whom, and what the buffers hold.

  Every device keeps a scratch buffer of four slots of 64 × 128 partial sums. Slot 0 receives, eight rows per grid point, the
  device's own sums of squares; slot `k` receives those of the device `k` places ahead of it on the ring of four. `full c` names
  the whole buffer once all four slots are filled, so that every statement below speaks of one named content.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk
public import Idealize.ShloMosaic.Lib.Pointwise.Index
public import Idealize.ShloMosaic.Lib.Memref
public import Idealize.ShloMosaic.Lib.Rounds
public import Idealize.ShloMosaic.Lib.Tactic

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring of four devices -/

/-- The device `k` places after `c` on the ring. -/
def ahead (k : Fin 4) (c : Dev nD) : Dev nD := ⟨(c.val + k.val) % 4, Nat.mod_lt _ (by decide)⟩

/-- The device at distance `j + 1`: the peer of the `j`-th signal and of the `j`-th copy. -/
abbrev peer (j : Fin 3) (c : Dev nD) : Dev nD := ahead j.succ c

theorem ahead_zero (c : Dev nD) : ahead 0 c = c := by revert c; decide
/-- The peer of a peer at the complementary distance is the device itself. -/
theorem peer_rev (j : Fin 3) (c : Dev nD) : peer j.rev (peer j c) = c := by revert j c; decide
theorem peer_rev' (j : Fin 3) (c : Dev nD) : peer j (peer j.rev c) = c := by revert j c; decide

/-- Going `j + 1` places is a permutation of the devices. -/
def ring (j : Fin 3) : Dev nD ≃ Dev nD := ⟨peer j, peer j.rev, peer_rev j, peer_rev' j⟩

/-! ## The slots of the scratch buffer -/

/-- The scratch buffer, whole. -/
abbrev comm : Memref sig .tc .vmem S4x64x128 .f32 := Memref.whole cc0_scratch0

theorem slot_inb (k : Fin 4) : ∀ a, (![k.val, 0, 0] : Fin 3 → Nat) a + S1x64x128.size a ≤ S4x64x128.size a := by
  revert k; decide

/-- Slot `k` as a rectangle of the scratch buffer, -/
abbrev slab (k : Fin 4) : Rect S4x64x128 := Rect.unit (s := S4x64x128) ![k.val, 0, 0] S1x64x128.size (slot_inb k)

/-- and as the memref the copies name. -/
abbrev slot (k : Fin 4) : Memref sig .tc .vmem S64x128 .f32 :=
  (comm.slice (slab k) (fun _ => rfl)).squeeze S64x128 squeezes_S1x64x128_S64x128

/-- Slot `k` holds the elements whose first coordinate is `k`. -/
theorem mem_slab (k : Fin 4) (y : S4x64x128.Idx) : y ∈ (slab k).set ↔ (y 0).val = k.val := by
  rw [Rect.mem_set_unit]
  constructor
  · intro h; have := h 0
    change k.val ≤ (y 0).val ∧ (y 0).val < k.val + 1 at this; omega
  · intro h a
    match a with
    | 0 => show k.val ≤ (y 0).val ∧ (y 0).val < k.val + 1; omega
    | 1 => show 0 ≤ (y 1).val ∧ (y 1).val < 0 + 64; have := (y 1).isLt; change (y 1).val < 64 at this; omega
    | 2 => show 0 ≤ (y 2).val ∧ (y 2).val < 0 + 128; have := (y 2).isLt; change (y 2).val < 128 at this; omega

theorem slot_set (k : Fin 4) : (slot k).view.set = (slab k).set :=
  (View.set_reshape _ _).trans (View.set_slice_whole _ _)

theorem mem_slot (k : Fin 4) (y : S4x64x128.Idx) : y ∈ (slot k).view.set ↔ (y 0).val = k.val := by
  rw [slot_set]; exact mem_slab k y

/-- What a copy of one slot credits. -/
abbrev N : ℕ := (slot 0).view.dmaCredit
theorem N_pos : 0 < N := View.dmaCredit_pos _ (by decide)
theorem N_slot (k : Fin 4) : (slot k).view.dmaCredit = N := rfl

/-! ## The contents -/

variable (m : (ℓ : Loc nD τ sig) → Buf (Elt F) ℓ)

/-- Block `t` of `x` on device `d`: 1024 rows of the device's 2048 columns. -/
def xblk (t : Fin cfg0.N) (d : Dev nD) : Vec F S1024x2048 .f32 :=
  (win0_0.blk t).view.read (Elt F) (V0 m d main_arg0)

/-- The sums of squares of 1024 rows, laid out as eight rows of 128. -/
def part (v : Vec F S1024x2048 .f32) : Vec F S1x8x128 .f32 :=
  k0_pay1 (k0_pay4 v) (iota .tc S8x1024 32 [0] iota_S8x1024_d0_w32) (iota .tc S8x1024 32 [1] iota_S8x1024_d1_w32) 128#32
    k0_pay5 k0_pay6 0#32

/-- The grid point whose block covers row `r` of the 64 rows of sums. -/
def ptOf (r : Fin 64) : Fin cfg0.N := ⟨r.val / 8, by have : cfg0.N = 8 := N_0; omega⟩

/-- Device `d`'s own sums of squares: row `r`, lane `l` of the 64 × 128 layout. -/
def sums (d : Dev nD) (r : Fin 64) (l : Fin 128) : Elt F .f32 :=
  part (xblk m (ptOf r) d) (ix3 (0 : Fin 1) (⟨r.val % 8, Nat.mod_lt _ (by decide)⟩ : Fin 8) l)

/-- Device `c`'s scratch buffer with every slot filled: slot `k` holds the sums of the device `k` places ahead. -/
def full (c : Dev nD) : (cc0_scratch0 : Ref sig .tc).ty.Contents (Elt F) := fun y : S4x64x128.Idx =>
  sums m (ahead (y 0) c) (y 1) (y 2)

/-- What a load of slot `k` reads. -/
def slotVal (c : Dev nD) (k : Fin 4) : Vec F S1x64x128 .f32 := fun y => sums m (ahead k c) (y 1) (y 2)

/-- What the region leaves in its result: the reciprocal root of the mean of squares, per row of `x`. -/
def rms (c : Dev nD) : Vec F S64x128 .f32 :=
  k0_pay2 (k0_pay3 (slotVal m c 0) (slotVal m c 1) (slotVal m c 2) (slotVal m c 3))

/-- A slot's element, through the rectangle: the same element of the slab. -/
theorem slot_emb_slab (k : Fin 4) (i : S64x128.Idx) :
    (slot k).view.emb i = (slab k).emb (Shape.reshapeEquiv (squeezes_S1x64x128_S64x128).numel_eq i) := rfl

/-- Slabs differ in the first coordinate only. -/
theorem slab_emb (k : Fin 4) (i : S1x64x128.Idx) : (slab k).emb i = ix3 k (i 1) (i 2) := by
  funext a
  match a with
  | 0 => exact Fin.ext (by show k.val + 1 * (i 0).val = k.val; have := (i 0).isLt; change (i 0).val < 1 at this; omega)
  | 1 => exact Fin.ext (by show 0 + 1 * (i 1).val = (i 1).val; omega)
  | 2 => exact Fin.ext (by show 0 + 1 * (i 2).val = (i 2).val; omega)

/-- The index in slot 0 of the index `i` of a slot. -/
def inSlot (i : S64x128.Idx) : S1x64x128.Idx := Shape.reshapeEquiv (squeezes_S1x64x128_S64x128).numel_eq i

/-- All slots are laid out alike: element `i` of slot `k` has first coordinate `k`, and the others do not depend on `k`. -/
theorem slot_emb (k : Fin 4) (i : S64x128.Idx) : (slot k).view.emb i = ix3 k (inSlot i 1) (inSlot i 2) :=
  (slot_emb_slab k i).trans (slab_emb k (inSlot i))

/-- A copy of device `c`'s slot 0 into the slot of its `j`-th peer that is kept for `c` leaves there what `full` names. -/
theorem sent_eq (j : Fin 3) (c : Dev nD) (fd : (cc0_scratch0 : Ref sig .tc).ty.Contents (Elt F)) :
    ∀ y ∈ (slot j.rev.succ).view.set,
      (slot j.rev.succ).view.write (Elt F) fd ((slot 0).view.read (Elt F) (full m c)) Finset.univ y = full m (peer j c) y := by
  intro y hy
  obtain ⟨i, -, rfl⟩ := Finset.mem_map.mp hy
  rw [View.write_emb_of_mem _ _ (Finset.mem_univ i), View.read_apply, cast_cast, cast_eq]
  refine (congrArg (full m c) (slot_emb 0 i)).trans (Eq.trans ?_ (congrArg (full m (peer j c)) (slot_emb j.rev.succ i)).symm)
  show sums m (ahead 0 c) (inSlot i 1) (inSlot i 2) = sums m (peer j.rev (peer j c)) (inSlot i 1) (inSlot i 2)
  rw [ahead_zero, peer_rev]

/-! ## The buffer as four slots -/

theorem slots_cover : (Finset.univ : Finset (Fin 4)).biUnion (fun k => (slab k).set) = Finset.univ := by
  ext y
  simp only [Finset.mem_biUnion, Finset.mem_univ, true_and, iff_true]
  exact ⟨y 0, (mem_slab _ y).mpr rfl⟩

theorem slots_disjoint (k k' : Fin 4) (h : k ≠ k') : Disjoint (slab k).set (slab k').set :=
  Finset.disjoint_left.mpr fun y hy hy' => h (Fin.ext (((mem_slab k y).mp hy).symm.trans ((mem_slab k' y).mp hy')))

end Cert.KernelIdeal.Norm

end
-- ==== Proof.KernelIdeal.Talk.lean ====
/-
  The protocol of the first region's last grid point, on the rounds library.

  Each device has one barrier cell, three send cells and three receive cells. The `j`-th signal of device `c` goes to its
  `j`-th peer's barrier and lends that peer slot `j + 1` of `c`'s scratch buffer; the copy back into that slot is the peer's copy
  number `2 - j`. A copy pays the sender's send cell with the share of slot 0 it read, and the receiver's receive cell with the slot it
  filled, at the named contents.
-/
module

public import proofs.«01_k».proof.Proof.KernelIdeal.Contents

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds have one duty a round, -/
abbrev UP : Type := URounds (GSem nD τ sig) Unit
/-- the exchange's up to three: a barrier is signalled by three devices. -/
abbrev UX : Type := URounds (GSem nD τ sig) (Fin 3)
abbrev UU : Type := UP × UX

local notation "𝕄" => MT nD τ sig Unit (Elt F) ℕ UU ℕ

/-- The pipeline's part of the algebra, -/
def EP : Emb UP (MT nD τ sig Unit (Elt F) ℕ UU ℕ) :=
  (Emb.inl : Emb UP UU).trans (uEmb (nD := nD) (sig := sig) (Ix := Unit) (Val := Elt F) (Name := ℕ) (U := UU) (Lvl := ℕ)).toEmb
/-- and the exchange's. -/
def ER : Emb UX (MT nD τ sig Unit (Elt F) ℕ UU ℕ) :=
  (Emb.inr : Emb UX UU).trans (uEmb (nD := nD) (sig := sig) (Ix := Unit) (Val := Elt F) (Name := ℕ) (U := UU) (Lvl := ℕ)).toEmb

instance EP_landsIn : (EP : Emb UP 𝕄).LandsIn (upEmb : UEmb _ 𝕄) := by unfold EP; infer_instance
instance ER_landsIn : (ER : Emb UX 𝕄).LandsIn (upEmb : UEmb _ 𝕄) := by unfold ER; infer_instance

omit [FloatOps F] in
/-- A separating conjunction over three. -/
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A separating conjunction over four. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Cells -/

abbrev barS : Sem sig := sig.barrier 0 rfl
abbrev sendS (j : Fin 3) : DmaSem sig := ⟨3 + j.val, by show 3 + j.val < 16; omega⟩
abbrev recvS (j : Fin 3) : DmaSem sig := ⟨6 + j.val, by show 6 + j.val < 16; omega⟩

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The region's own semaphores: three for sending, three for receiving. -/
abbrev osem : Fin 3 ⊕ Fin 3 → SemLoc sig := Sum.elim (fun j => .dma (sendS j)) (fun j => .dma (recvS j))

/-! ## Points-tos -/

/-- Slot `k` of device `c`, held at share `q`, the buffer's contents being `f` there. -/
def slotPts (k : Fin 4) (c : Dev nD) (q : PosShare TreeShare) (f : (cc0_scratch0 : Ref sig .tc).ty.Contents (Elt F)) : sProp 𝕄 :=
  (slot k).view.loc (c : Thread nD τ) ↦[(slot k).view.set]{q} f

omit [FloatOps F] in
instance slotPts_storable (k : Fin 4) (c : Dev nD) (q : PosShare TreeShare) (f : (cc0_scratch0 : Ref sig .tc).ty.Contents (Elt F)) :
    BI.Storable (upEmb : UEmb _ 𝕄) (slotPts (F := F) k c q f) := by
  unfold slotPts; infer_instance

omit [FloatOps F] in
theorem slotPts_congr (k : Fin 4) (c : Dev nD) (q : PosShare TreeShare) {f g : (cc0_scratch0 : Ref sig .tc).ty.Contents (Elt F)}
    (h : ∀ y ∈ (slot k).view.set, f y = g y) : (slotPts k c q f : sProp 𝕄) = slotPts k c q g := by
  unfold slotPts; exact pointsTo_congr h

omit [FloatOps F] in
/-- The scratch buffer is its four slots. -/
theorem comm_slots (c : Dev nD) (f : (cc0_scratch0 : Ref sig .tc).ty.Contents (Elt F)) :
    (((c : Thread nD τ).loc cc0_scratch0) ↦{fullShare} f : sProp 𝕄)
      = iprop(slotPts 0 c fullShare f ∗ slotPts 1 c fullShare f ∗ slotPts 2 c fullShare f ∗ slotPts 3 c fullShare f) := by
  rw [← four (fun k => slotPts k c fullShare f)]
  unfold slotPts
  rw [bigSep_congr (fun k _ => by rw [slot_set k])]
  rw [← slots_cover]
  exact pointsTo_biUnion _ _ fun k _ k' _ h => slots_disjoint k k' h

/-- The three shares of slot 0 the three copies read at. -/
def sh : Fin 3 → PosShare TreeShare
  | 0 => fullShare.left
  | 1 => fullShare.right.left
  | 2 => fullShare.right.right

omit [FloatOps F] in
/-- Slot 0 whole is its three shares. -/
theorem slot0_shares (c : Dev nD) (f : (cc0_scratch0 : Ref sig .tc).ty.Contents (Elt F)) :
    (slotPts 0 c fullShare f : sProp 𝕄) ⊣⊢ iprop(slotPts 0 c (sh 0) f ∗ slotPts 0 c (sh 1) f ∗ slotPts 0 c (sh 2) f) := by
  unfold slotPts sh
  have h1 := pointsTo_share (nD := nD) (τ := τ) (sig := sig) (Ix := Unit) (Val := Elt F) (Name := ℕ) (U := UU) (Lvl := ℕ)
    (ℓ := (slot 0).view.loc (c : Thread nD τ)) (I := (slot 0).view.set) (f := f) (PosShare.mem_left_op_right fullShare)
  have h2 := pointsTo_share (nD := nD) (τ := τ) (sig := sig) (Ix := Unit) (Val := Elt F) (Name := ℕ) (U := UU) (Lvl := ℕ)
    (ℓ := (slot 0).view.loc (c : Thread nD τ)) (I := (slot 0).view.set) (f := f) (PosShare.mem_left_op_right fullShare.right)
  exact ⟨h1.1.trans (sep_mono_right h2.1), (sep_mono_right h2.2).trans h1.2⟩

/-! ## The schedule -/

variable (m : (ℓ : Loc nD τ sig) → Buf (Elt F) ℓ)

/-- The device that signals `c`'s barrier as its `j`-th: `c` is its `j`-th peer. -/
abbrev signaller (j : Fin 3) (c : Dev nD) : Dev nD := peer j.rev c

/-- The `j`-th signal to `c` lends `c` slot `j + 1` of its signaller, whose receive cell for that slot is open. -/
def barPay (c : Dev nD) (j : Fin 3) : sProp 𝕄 :=
  iprop((∃ f, slotPts j.succ (signaller j c) fullShare f) ∗ reached ER (recvCell (signaller j c) j) 0)
/-- The landing of a copy hands over the slot, filled. -/
def recvPay (c : Dev nD) (j : Fin 3) : sProp 𝕄 := slotPts j.succ c fullShare (full m c)
/-- A copy read out gives back the share of slot 0 it read. -/
def sendPay (c : Dev nD) (j : Fin 3) : sProp 𝕄 := slotPts 0 c (sh j) (full m c)

/-- What duty `d` of a cell pays. -/
def pay (c : Dev nD) (s : SemLoc sig) (d : Fin 3) : sProp 𝕄 :=
  match s with
  | .reg _ => barPay c d
  | .dma k =>
    if h : 3 ≤ k.val ∧ k.val < 6 then sendPay m c ⟨k.val - 3, by omega⟩
    else if h : 6 ≤ k.val ∧ k.val < 9 then recvPay m c ⟨k.val - 6, by omega⟩
    else iprop(emp)

/-- The duties of a cell: three on a barrier, one on a send or receive cell. -/
def dutiesOf (s : SemLoc sig) : Finset (Fin 3) :=
  match s with
  | .reg _ => Finset.univ
  | .dma k => if 3 ≤ k.val ∧ k.val < 9 then {0} else ∅

/-- One round: a barrier takes three units, one a duty; a send or receive cell one slot's credit. -/
def rd : Rounds.Schedule (GSem nD τ sig) (Fin 3) 𝕄 where
  duties g r := if r = 0 ∧ g.1.2 = .tc then dutiesOf g.2 else ∅
  unitless _ := False
  amount g _ _ := match g.2 with | .reg _ => 1 | .dma _ => N
  payload g _ d := pay m g.1.1 g.2 d
  amount_pos g _ _ _ := by
    split
    · exact Nat.one_pos
    · exact N_pos

instance rd_payload_storable (g : GSem nD τ sig) (r : ℕ) (d : Fin 3) :
    BI.Storable (upEmb : UEmb _ 𝕄) ((rd (F := F) m).payload g r d) := by
  show BI.Storable upEmb (pay m g.1.1 g.2 d)
  unfold pay barPay recvPay sendPay
  (repeat' split) <;> infer_instance

section Tables

variable (c : Dev nD) (j : Fin 3)

theorem duties_bar : (rd (F := F) m).duties (barCell c) 0 = Finset.univ := by
  dsimp only [rd]; exact if_pos ⟨rfl, rfl⟩
theorem duties_send : (rd (F := F) m).duties (sendCell c j) 0 = {0} := by
  dsimp only [rd]; rw [if_pos ⟨rfl, rfl⟩]; exact if_pos ⟨by simp, by simp; omega⟩
theorem duties_recv : (rd (F := F) m).duties (recvCell c j) 0 = {0} := by
  dsimp only [rd]; rw [if_pos ⟨rfl, rfl⟩]; exact if_pos ⟨by simp; omega, by simp; omega⟩
/-- After its round no cell has a duty. -/
theorem duties_later (g : GSem nD τ sig) : ∀ r, 1 ≤ r → (rd (F := F) m).duties g r = ∅ :=
  fun r hr => by dsimp only [rd]; exact if_neg fun h => by omega

theorem amount_bar (d : Fin 3) : (rd (F := F) m).amount (barCell c) 0 d = 1 := rfl
theorem amount_send (d : Fin 3) : (rd (F := F) m).amount (sendCell c j) 0 d = N := rfl
theorem amount_recv (d : Fin 3) : (rd (F := F) m).amount (recvCell c j) 0 d = N := rfl

theorem expect_bar : (rd (F := F) m).expect (barCell c) 0 = 3 := by
  unfold Schedule.expect Schedule.amountOf; rw [duties_bar]; rfl
theorem expect_send : (rd (F := F) m).expect (sendCell c j) 0 = N := by
  unfold Schedule.expect Schedule.amountOf; rw [duties_send, Finset.sum_singleton, amount_send]
theorem expect_recv : (rd (F := F) m).expect (recvCell c j) 0 = N := by
  unfold Schedule.expect Schedule.amountOf; rw [duties_recv, Finset.sum_singleton, amount_recv]

theorem payload_bar (d : Fin 3) : (rd (F := F) m).payload (barCell c) 0 d = barPay c d := rfl
theorem payload_send (d : Fin 3) : (rd (F := F) m).payload (sendCell c j) 0 d = sendPay m c j := by
  show pay m c (.dma (sendS j)) d = _
  refine (dif_pos ⟨by simp, by simp; omega⟩).trans ?_
  exact congrArg (sendPay m c) (Fin.ext (by simp))
theorem payload_recv (d : Fin 3) : (rd (F := F) m).payload (recvCell c j) 0 d = recvPay m c j := by
  show pay m c (.dma (recvS j)) d = _
  refine (dif_neg (by simp)).trans ((dif_pos ⟨by simp, by simp; omega⟩).trans ?_)
  exact congrArg (recvPay m c) (Fin.ext (by simp))

theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, three]; rfl
theorem rest_send : bigSep ((rd (F := F) m).duties (sendCell c j) 0 \ ∅) (fun d => (rd (F := F) m).payload (sendCell c j) 0 d)
    = sendPay m c j := by
  rw [Finset.sdiff_empty, duties_send, bigSep_singleton, payload_send]
theorem rest_recv : bigSep ((rd (F := F) m).duties (recvCell c j) 0 \ ∅) (fun d => (rd (F := F) m).payload (recvCell c j) 0 d)
    = recvPay m c j := by
  rw [Finset.sdiff_empty, duties_recv, bigSep_singleton, payload_recv]

end Tables

/-! ## What a device owes, and the levels -/

/-- The credit of the `j`-th copy, owed to the `j`-th peer's receive cell; -/
def dueRecv (c : Dev nD) (j : Fin 3) : CellTallies nD τ sig Unit := tallyAt (recvCell (peer j c) j.rev) () N
/-- the unit of the `j`-th signal, owed to the `j`-th peer's barrier. -/
def dueBar (c : Dev nD) (j : Fin 3) : CellTallies nD τ sig Unit := tallyAt (barCell (peer j c)) () 1

/-- What the copies pay, the first last. -/
def dueCopies (c : Dev nD) : CellTallies nD τ sig Unit := dueRecv c 2 + dueRecv c 1 + dueRecv c 0
/-- All a device owes at launch. -/
def O₀ (c : Dev nD) : CellTallies nD τ sig Unit := dueCopies c + dueBar c 2 + dueBar c 1 + dueBar c 0

/-- Every cell of a TensorCore is levelled: -/
def L (g : GSem nD τ sig) : Finset Unit := if g.1.2 = .tc then {()} else ∅
/-- barriers at 1, receive cells at 2, everything else at 0. -/
def lv (g : GSem nD τ sig) (_ : Unit) : ℕ :=
  match g.2 with
  | .reg _ => 1
  | .dma k => if 6 ≤ k.val ∧ k.val < 9 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (j : Fin 3) (u : Unit) : lv (recvCell c j) u = 2 := if_pos ⟨by simp, by simp; omega⟩

theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem dueRecv_pos {c : Dev nD} {j : Fin 3} {g : GSem nD τ sig} {u : Unit} (h : 0 < dueRecv c j g u) :
    () ∈ L g ∧ lv g u = 2 := by
  rw [tally_pos h]; exact ⟨by rw [L_tc]; exact Finset.mem_singleton_self _, lv_recv _ _ _⟩
theorem dueBar_pos {c : Dev nD} {j : Fin 3} {g : GSem nD τ sig} {u : Unit} (h : 0 < dueBar c j g u) :
    () ∈ L g ∧ lv g u = 1 := by
  rw [tally_pos h]; exact ⟨by rw [L_tc]; exact Finset.mem_singleton_self _, lv_bar _ _⟩

theorem add_pos_or {A B : CellTallies nD τ sig Unit} {g : GSem nD τ sig} {u : Unit} (h : 0 < (A + B) g u) : 0 < A g u ∨ 0 < B g u := by
  rw [Pi.add_apply, Finsupp.add_apply] at h; omega

/-- The copies' debts sit at level 2, -/
theorem dueCopies_pos {c : Dev nD} {g : GSem nD τ sig} {u : Unit} (h : 0 < dueCopies c g u) : () ∈ L g ∧ lv g u = 2 := by
  rcases add_pos_or h with h | h
  · rcases add_pos_or h with h | h <;> exact dueRecv_pos h
  · exact dueRecv_pos h
/-- and every debt at 1 or above. -/
theorem O₀_pos {c : Dev nD} {g : GSem nD τ sig} {u : Unit} (h : 0 < O₀ c g u) : () ∈ L g ∧ 0 < lv g u := by
  have two (h : 0 < dueCopies c g u) : () ∈ L g ∧ 0 < lv g u := ⟨(dueCopies_pos h).1, by rw [(dueCopies_pos h).2]; decide⟩
  have one {j : Fin 3} (h : 0 < dueBar c j g u) : () ∈ L g ∧ 0 < lv g u := ⟨(dueBar_pos h).1, by rw [(dueBar_pos h).2]; decide⟩
  rcases add_pos_or h with h | h
  · rcases add_pos_or h with h | h
    · rcases add_pos_or h with h | h
      · exact two h
      · exact one h
    · exact one h
  · exact one h

/-- A device may wait on its barrier while it owes its copies. -/
theorem mayWait_bar (c : Dev nD) :
    (levAts L lv : sProp 𝕄) ⊢ MayWait (c : Thread nD τ) (.reg barS) () (dueCopies c) :=
  MayOwe.of_cut (L := L) (lev := lv) 1 (fun p hp => by rw [Finset.mem_singleton.mp hp, L_tc]; exact Finset.mem_singleton_self _)
    (fun _ _ hg => (dueCopies_pos hg).1)
    (fun p hp => by rw [Finset.mem_singleton.mp hp]; exact Nat.le_refl 1)
    (fun _ _ hg => by rw [(dueCopies_pos hg).2]; decide)

/-! ## The ghost state -/

/-- The invariants and reached rounds device `c` uses towards its `j`-th peer, and for its own `j`-th send and receive cells. -/
def pers (K : GSem nD τ sig → ℕ) (c : Dev nD) (j : Fin 3) : sProp 𝕄 :=
  iprop(cellInv ER (rd m) (K (sendCell c j)) (sendCell c j) ∗ cellInv ER (rd m) (K (recvCell c j)) (recvCell c j)
    ∗ cellInv ER (rd m) (K (barCell (peer j c))) (barCell (peer j c))
    ∗ cellInv ER (rd m) (K (recvCell (peer j c) j.rev)) (recvCell (peer j c) j.rev)
    ∗ reached ER (barCell (peer j c)) 0)

instance pers_persistent (K : GSem nD τ sig → ℕ) (c : Dev nD) (j : Fin 3) : BI.Persistent (pers m K c j) := by
  unfold pers; infer_instance

/-- The tokens of the duties device `c` pays towards its `j`-th peer, and the credit it waits for a copy with. -/
def toks (c : Dev nD) (j : Fin 3) : sProp 𝕄 :=
  iprop(dutyTok ER (barCell (peer j c)) 0 j ∗ dutyTok ER (recvCell (peer j c) j.rev) 0 0 ∗ dutyTok ER (sendCell c j) 0 0
    ∗ cred (tallyAt (recvCell c j) () N))

/-- The right to open a send and a receive cell, which sleep until the region is entered. -/
def asleep (c : Dev nD) (j : Fin 3) : sProp 𝕄 := iprop(openTok ER (sendCell c j) ∗ openTok ER (recvCell c j))
/-- The two cells open, at their first round. -/
def awake (c : Dev nD) (j : Fin 3) : sProp 𝕄 :=
  iprop(atPos ER (sendCell c j) 0 ∅ 0 ∗ atPos ER (recvCell c j) 0 ∅ 0 ∗ reached ER (sendCell c j) 0 ∗ reached ER (recvCell c j) 0)

/-- What a device holds of its barrier. -/
def barHeld (K : GSem nD τ sig → ℕ) (c : Dev nD) : sProp 𝕄 :=
  iprop(cellInv ER (rd m) (K (barCell c)) (barCell c) ∗ atPos ER (barCell c) 0 ∅ 0 ∗ cred (tallyAt (barCell c) () 3))

/-- What a device carries from the launch to the first region: -/
def ghost (c : Dev nD) : sProp 𝕄 :=
  iprop(∃ K, barHeld m K c ∗ bigSep Finset.univ fun j : Fin 3 => iprop(pers m K c j ∗ toks c j ∗ asleep c j))
/-- and what it has in the region, its own cells open. -/
def opened (c : Dev nD) : sProp 𝕄 :=
  iprop(∃ K, barHeld m K c ∗ bigSep Finset.univ fun j : Fin 3 => iprop(pers m K c j ∗ toks c j ∗ awake c j))

/-- The variants of the programs' loops: there are none. -/
abbrev 𝒱₀ : Variants := Variants.none

end Cert.KernelIdeal.Norm

end
-- ==== Proof.KernelIdeal.Steps.lean ====
/-
  The operations of the exchange, one lemma each, at a symbolic device and a symbolic distance: a signal, the wait on the barrier,
  a copy, the wait on a send cell and the wait on a receive cell. Each names its targets by equations, so that it applies to the
  kernel's own terms.
-/
module

public import proofs.«01_k».proof.Proof.KernelIdeal.Talk

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The devices and semaphores the kernel computes -/

section Targets

variable {i : grid0.Coords} (h : k0_cond1 i = 1#1)

theorem dev1_eq : (⟨k0_dev1 c, k0_dev1_lt i c h⟩ : Dev nD) = peer 0 c := Fin.ext (k0_dev1_eq c)
theorem dev2_eq : (⟨k0_dev2 c, k0_dev2_lt i c h⟩ : Dev nD) = peer 1 c := Fin.ext (k0_dev2_eq c)
theorem dev3_eq : (⟨k0_dev3 c, k0_dev3_lt i c h⟩ : Dev nD) = peer 2 c := Fin.ext (k0_dev3_eq c)
theorem dev4_eq : (⟨k0_dev4 c, k0_dev4_lt i c h⟩ : Dev nD) = peer 0 c := Fin.ext (k0_dev4_eq c)
theorem dev5_eq : (⟨k0_dev5 c, k0_dev5_lt i c h⟩ : Dev nD) = peer 1 c := Fin.ext (k0_dev5_eq c)
theorem dev6_eq : (⟨k0_dev6 c, k0_dev6_lt i c h⟩ : Dev nD) = peer 2 c := Fin.ext (k0_dev6_eq c)

end Targets

theorem sem_inb (j : Fin 3) : ∀ a, (![j.val] : Fin 1 → Nat) a + S1.size a ≤ S3.size a := by revert j; decide

/-- The `j`-th semaphore of the send array, as the kernel slices it out, -/
theorem send_sem (j : Fin 3) :
    ((cc0_scratch1.slice (Rect.unit (s := S3) ![j.val] S1.size (sem_inb j))).squeeze S_ squeezes_S1_S_).sem = sendS j := by
  revert j; decide
/-- and of the receive array. -/
theorem recv_sem (j : Fin 3) :
    ((cc0_scratch2.slice (Rect.unit (s := S3) ![j.val] S1.size (sem_inb j))).squeeze S_ squeezes_S1_S_).sem = recvS j := by
  revert j; decide

/-! ## The operations -/

/-- The `j`-th signal: pays the peer's barrier with slot `j + 1`, whatever it holds. -/
theorem step_signal {α : Type} {Q : α → sProp 𝕄} {k : PUnit → Prog (TpuEff nD τ sig (Elt F) Λ₀ .tc) α}
    (j : Fin 3) {d : Dev nD} (hd : d = peer j c) {s : Sem sig} (hs : s = barS) {n : ℤ} (hn : n = ((1 : ℕ) : ℤ))
    (O : CellTallies nD τ sig Unit) (W : Waits sig Unit) :
    iprop(pers m K c j ∗ owes (c : Thread nD τ) (O + dueBar c j) W ∗ dutyTok ER (barCell (peer j c)) 0 j
        ∗ (∃ f, slotPts j.succ c fullShare f) ∗ reached ER (recvCell c j) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) s n) k) Q) := by
  subst hd hs hn
  unfold pers
  iintro ⟨⟨-, -, #Hi, -, #Hr⟩, HO, Ht, Hs, #Hv⟩
  iapply (Rounds.wp_signal 𝒱₀ ER (rd m) (c : Thread nD τ) none (dst := (peer j c : Thread nD τ)) (sem := barS) (r := 0) (d := j)
    (κ := K (barCell (peer j c))) (by rw [duties_bar]; exact Finset.mem_univ _) (amount_bar m _ j) () O rfl)
  isplitr; · iexact Hi
  isplitl [HO]; · iexact HO
  isplitl [Ht]; · iexact Ht
  isplitl [Hs]
  · rw [payload_bar]; unfold barPay signaller; rw [peer_rev]
    isplitl [Hs]; · iexact Hs
    iexact Hv
  iexact Hr

/-- The wait on the barrier: the three peers' slots come with the three units. The cell's one round done, it closes. -/
theorem step_barrier {α : Type} {Q : α → sProp 𝕄} {k : PUnit → Prog (TpuEff nD τ sig (Elt F) Λ₀ .tc) α}
    {s : Sem sig} (hs : s = barS) {n : ℤ} (hn : n = ((3 : ℕ) : ℤ)) (W : Waits sig Unit) :
    iprop(barHeld m K c ∗ levAts L lv ∗ owes (c : Thread nD τ) (dueCopies c) W)
      ⊢ iprop(((∃ W', owes (c : Thread nD τ) (dueCopies c) W') ∗ semVal (barCell c) 0 ∗ barPay c 0 ∗ barPay c 1 ∗ barPay c 2
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s n) k) Q) := by
  subst hs hn
  unfold barHeld
  iintro ⟨⟨#Hi, Hat, Hc⟩, #Hl, HO⟩ Hk
  iapply (Rounds.wp_wait_rest_token 𝒱₀ ER (rd m) (c : Thread nD τ) none (κ := K (barCell c))
    (wpE_semWait_eq 𝒱₀ (c : Thread nD τ) none Set.univ) (Set.mem_univ _) () (O := dueCopies c) (W := W) (R := 0) (m := 0) (T := ∅)
    ((Nat.zero_add 3).trans (expect_bar m c).symm)) $$ [Hc HO Hat]
  · isplitr; · iexact Hi
    isplitl [Hc]; · iexact Hc
    isplitl [HO]; · iexact HO
    isplitr; · iapply (mayWait_bar c); iexact Hl
    iexact Hat
  iintro ⟨HO, Hat, -, Hpay⟩
  ihave Hpay := (Entails.of_eq (rest_bar m c)) $$ Hpay
  imod (Rounds.cell_close ER (rd m) (Set.mem_univ (K (barCell c))) id (R := 0 + 1) (duties_later m (barCell c))) $$ [Hat] with Hz
  · isplitr; · iexact Hi
    iexact Hat
  iapply Hk
  isplitl [HO]; · iexists _; iexact HO
  isplitl [Hz]; · iexact Hz
  iexact Hpay

/-- The `j`-th copy: reads the device's slot 0 at one of its three shares, and fills the slot of the `j`-th peer kept for it. -/
theorem step_copy {α : Type} {Q : α → sProp 𝕄} {k : PUnit → Prog (TpuEff nD τ sig (Elt F) Λ₀ .tc) α}
    (j : Fin 3) {d : Dev nD} (hd : d = peer j c) {src dst : Memref sig .tc .vmem S64x128 .f32} (hsrc : src = slot 0)
    (hdst : dst = slot j.rev.succ) {s r : DmaSem sig} (hs : s = sendS j) (hr : r = recvS j.rev)
    {hsc : (dst : Memref sig (Dev.tc d : Thread nD τ).2.kind .vmem S64x128 .f32).view.ref.isScScratch = false}
    {hw : src.view.WordExact} {hw' : dst.view.WordExact}
    {hty : DmaTarget.Typed .vmem (.dma r) (.remote (Dev.tc d : Thread nD τ) dst (.dma s) hsc)}
    (O : CellTallies nD τ sig Unit) (W : Waits sig Unit) :
    iprop(pers m K c j ∗ slotPts 0 c (sh j) (full m c) ∗ barPay c j.rev ∗ owes (c : Thread nD τ) (O + dueRecv c j) W
        ∗ dutyTok ER (sendCell c j) 0 0 ∗ reached ER (sendCell c j) 0 ∗ dutyTok ER (recvCell (peer j c) j.rev) 0 0)
      ⊢ iprop((cred (tallyAt (sendCell c j) () N) ∗ owes (c : Thread nD τ) O W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma s) hsc) (.dma r) hw hw' hty) k) Q) := by
  subst hd hsrc hdst hs hr
  unfold pers barPay signaller
  rw [Fin.rev_rev]
  iintro ⟨⟨#His, -, -, #Hir, -⟩, Hsrc, ⟨⟨%fd, Hdst⟩, #Hv⟩, HO, Hts, #Hrs, Htr⟩
  unfold slotPts
  have hN : (slot j.rev.succ).view.amount (SemLoc.dma (recvS j.rev)) = N := N_slot j.rev.succ
  have h₁ : (0 : Fin 3) ∈ (rd (F := F) m).duties (sendCell c j) 0 := by rw [duties_send]; exact Finset.mem_singleton_self _
  have h₂ : (0 : Fin 3) ∈ (rd (F := F) m).duties (recvCell (peer j c) j.rev) 0 := by
    rw [duties_recv]; exact Finset.mem_singleton_self _
  have p₁ : slotPts 0 c (sh j) (full m c) ⊢ (rd m).payload (sendCell c j) 0 0 := by
    rw [payload_send]; unfold sendPay; exact BI.Entails.refl _
  have p₂ : slotPts j.rev.succ (peer j c) fullShare
      ((slot j.rev.succ).view.write (Elt F) fd ((slot 0).view.read (Elt F) (full m c)) Finset.univ)
      ⊢ (rd m).payload (recvCell (peer j c) j.rev) 0 0 := by
    rw [payload_recv]; unfold recvPay slotPts; exact Entails.of_eq (pointsTo_congr (sent_eq m j c fd))
  unfold slotPts at p₁ p₂
  iapply (Rounds.wp_send_pointsTo (defs := defs₀ (F := F)) (k := k) (Q := Q) (src := slot 0) (dst := slot j.rev.succ)
    (sS := .dma (sendS j)) (sem := .dma (recvS j.rev)) (hsc := hsc) (hsrc := hw) (hdst := hw') (hsem := hty) (c' := (peer j c : Thread nD τ))
    𝒱₀ ER (rd m) (c : Thread nD τ) none (κ₁ := K (sendCell c j)) (κ₂ := K (recvCell (peer j c) j.rev)) h₁ h₂ () () N hN
    (amount_send m c j 0) (amount_recv m (peer j c) j.rev 0) O (O₀ := O + dueRecv c j) rfl (W := W) p₁ p₂)
  isplitr; · iexact His
  isplitr; · iexact Hir
  isplitl [Hsrc]; · iexact Hsrc
  isplitl [Hdst]; · iexact Hdst
  isplitl [HO]; · iexact HO
  isplitl [Hts]; · iexact Hts
  isplitr; · iexact Hrs
  isplitl [Htr]; · iexact Htr
  iexact Hv

/-- The wait on the `j`-th send cell: the share of slot 0 comes back, and the cell closes. -/
theorem step_sent {α : Type} {Q : α → sProp 𝕄} {k : PUnit → Prog (TpuEff nD τ sig (Elt F) Λ₀ .tc) α}
    (j : Fin 3) {src dst : Memref sig .tc .vmem S64x128 .f32} (hN : dst.view.dmaCredit = N) {s : DmaSem sig} (hs : s = sendS j)
    {hw : src.view.WordExact} {hw' : dst.view.WordExact} :
    iprop(pers m K c j ∗ cred (tallyAt (sendCell c j) () N) ∗ (∃ W, owes (c : Thread nD τ) 0 W) ∗ atPos ER (sendCell c j) 0 ∅ 0)
      ⊢ iprop(((∃ W, owes (c : Thread nD τ) 0 W) ∗ semVal (sendCell c j) 0 ∗ slotPts 0 c (sh j) (full m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hw hw') k) Q) := by
  subst hs
  unfold pers
  iintro ⟨⟨#Hi, -, -, -, -⟩, Hc, ⟨%W, HO⟩, Hat⟩ Hk
  iapply (Rounds.wp_wait_rest_token 𝒱₀ ER (rd m) (c : Thread nD τ) none (κ := K (sendCell c j))
    (wpE_waitDma2_eq 𝒱₀ (c : Thread nD τ) none Set.univ) (Set.mem_univ _) () (O := 0) (W := W) (R := 0) (m := 0) (T := ∅)
    (by rw [Nat.zero_add, hN, expect_send])) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hpay := (Entails.of_eq (rest_send m c j)) $$ Hpay
  imod (Rounds.cell_close ER (rd m) (Set.mem_univ (K (sendCell c j))) id (R := 0 + 1) (duties_later m (sendCell c j))) $$ [Hat] with Hz
  · isplitr; · iexact Hi
    iexact Hat
  iapply Hk
  isplitl [HO]; · iexists _; iexact HO
  isplitl [Hz]; · iexact Hz
  unfold sendPay
  iexact Hpay

/-- The wait on the `j`-th receive cell: slot `j + 1` comes back, filled, and the cell closes. -/
theorem step_received {α : Type} {Q : α → sProp 𝕄} {k : PUnit → Prog (TpuEff nD τ sig (Elt F) Λ₀ .tc) α}
    (j : Fin 3) {src dst : Memref sig .tc .vmem S64x128 .f32} (hN : dst.view.dmaCredit = N) {s : DmaSem sig}
    (hs : s = recvS j) {hw : src.view.WordExact} {hw' : dst.view.WordExact} :
    iprop(pers m K c j ∗ cred (tallyAt (recvCell c j) () N) ∗ (∃ W, owes (c : Thread nD τ) 0 W) ∗ atPos ER (recvCell c j) 0 ∅ 0)
      ⊢ iprop(((∃ W, owes (c : Thread nD τ) 0 W) ∗ semVal (recvCell c j) 0 ∗ slotPts j.succ c fullShare (full m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hw hw') k) Q) := by
  subst hs
  unfold pers
  iintro ⟨⟨-, #Hi, -, -, -⟩, Hc, ⟨%W, HO⟩, Hat⟩ Hk
  iapply (Rounds.wp_wait_rest_token 𝒱₀ ER (rd m) (c : Thread nD τ) none (κ := K (recvCell c j))
    (wpE_waitDma2_eq 𝒱₀ (c : Thread nD τ) none Set.univ) (Set.mem_univ _) () (O := 0) (W := W) (R := 0) (m := 0) (T := ∅)
    (by rw [Nat.zero_add, hN, expect_recv])) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hpay := (Entails.of_eq (rest_recv m c j)) $$ Hpay
  imod (Rounds.cell_close ER (rd m) (Set.mem_univ (K (recvCell c j))) id (R := 0 + 1) (duties_later m (recvCell c j))) $$ [Hat] with Hz
  · isplitr; · iexact Hi
    iexact Hat
  iapply Hk
  isplitl [HO]; · iexists _; iexact HO
  isplitl [Hz]; · iexact Hz
  unfold recvPay
  iexact Hpay

end Cert.KernelIdeal.Norm

end
-- ==== Proof.KernelIdeal.Access.lean ====
/-
  Loads and stores: of a memref entire, which is how the kernels use their staging buffers; and of the exchange's scratch
  buffer, which is stored eight rows of a slot at a time and read a slot at a time.
-/
module

public import proofs.«01_k».proof.Proof.KernelIdeal.Steps
public import Idealize.ShloMosaic.Lib.VecWindow

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A memref entire -/

/-- A load of all of a memref reads what the memref holds. -/
theorem step_load {α : Type} {Q : α → sProp 𝕄} (c : Dev nD) {s : Shape} {e : EltTy} (M : Memref sig .tc .vmem s e)
    {off : Fin s.rank → ℕ} (inb : ∀ a, off a + s.size a ≤ s.size a) {hl : M.view.LoadsAt (Rect.unit off s.size inb).toLoadRect}
    {k : (s.Idx → Elt F e) → Prog (TpuEff nD τ sig (Elt F) Λ₀ .tc) α} (q : PosShare TreeShare) (X : s.Idx → Elt F e) :
    owns (c : Thread nD τ) M q X
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ
              (.op (.load M (Rect.unit off s.size inb).toLoadRect hl) k) Q) := by
  unfold owns
  iintro ⟨%f, %hf, H⟩ Hk
  iapply (wp_load_rect 𝒱₀ (c : Thread nD τ) none Set.univ (m := M) (r := Rect.unit off s.size inb) (View.set_slice_subset _ _)) $$ H
  iintro H
  have hX : (M.access (Rect.unit off s.size inb)).read (Elt F) f = X := by
    rw [← hf]; funext x
    show _root_.cast _ (f (M.view.emb ((Rect.unit off s.size inb).emb x))) = _root_.cast _ (f (M.view.emb x))
    rw [Rect.emb_unit_full]
  rw [hX]
  iapply Hk
  iexists f
  isplitr; · ipureintro; exact hf
  iexact H

/-- A store to all of a memref leaves what is stored. -/
theorem step_store {α : Type} {Q : α → sProp 𝕄} (c : Dev nD) {s : Shape} {e : EltTy} (M : Memref sig .tc .vmem s e)
    {off : Fin s.rank → ℕ} (inb : ∀ a, off a + s.size a ≤ s.size a) (v : s.Idx → Elt F e)
    {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} (X : s.Idx → Elt F e) :
    owns (c : Thread nD τ) M fullShare X
      ⊢ iprop((owns (c : Thread nD τ) M fullShare v -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit off s.size inb) v Finset.univ hx hm) k) Q) := by
  unfold owns
  iintro ⟨%f, -, H⟩ Hk
  iapply (wp_store 𝒱₀ (c : Thread nD τ) none Set.univ (m := M) (r := Rect.unit off s.size inb) (Mk := Finset.univ)
    (View.set_slice_subset _ _)) $$ H
  iintro H
  iapply Hk
  iexists _
  isplitr; swap; · iexact H
  ipureintro
  funext y
  conv_lhs => rw [← Rect.emb_unit_full inb y]
  rw [View.read_slice_write_emb _ _ _ (Finset.mem_univ _)]

/-! ## The scratch buffer -/

variable (m : (ℓ : Loc nD τ sig) → Buf (Elt F) ℓ)

/-- The scratch buffer, at contents `f`. -/
def commPts (c : Dev nD) (f : (cc0_scratch0 : Ref sig .tc).ty.Contents (Elt F)) : sProp 𝕄 :=
  ((c : Thread nD τ).loc cc0_scratch0) ↦{fullShare} f

/-- A load of slot `k`, of the buffer filled. -/
theorem read_slab (c : Dev nD) (k : Fin 4) : (comm.access (slab k)).read (Elt F) (full m c) = slotVal m c k := by
  funext y
  show full m c ((slab k).emb y) = _
  rw [slab_emb k y]
  rfl

/-- The first `n` blocks of rows of slot 0 hold the device's own sums. -/
def sofar (c : Dev nD) (n : ℕ) (f : (cc0_scratch0 : Ref sig .tc).ty.Contents (Elt F)) : Prop :=
  ∀ y : S4x64x128.Idx, (y 0).val = 0 → (y 1).val < 8 * n → f y = full m c y

theorem sofar_zero (c : Dev nD) (f) : sofar m c 0 f := fun _ _ h => absurd h (Nat.not_lt_zero _)

/-- The whole slot, after eight. -/
theorem sofar_eight (c : Dev nD) (f) (h : sofar m c 8 f) : ∀ y ∈ (slot 0).view.set, f y = full m c y := fun y hy =>
  h y ((mem_slot 0 y).mp hy) (by have := (y 1).isLt; exact this)

theorem row_inb (t : Fin cfg0.N) : ∀ a, (![0, 8 * t.val, 0] : Fin 3 → ℕ) a + S1x8x128.size a ≤ S4x64x128.size a := by
  revert t; decide

/-- The rows of slot 0 that grid point `t` writes. -/
abbrev row (t : Fin cfg0.N) : Rect S4x64x128 := Rect.unit (s := S4x64x128) ![0, 8 * t.val, 0] S1x8x128.size (row_inb t)

/-- Element `i` of block `t`: row `8 t + i 1` of slot 0. -/
theorem row_emb (t : Fin cfg0.N) (i : S1x8x128.Idx) (a : Fin 3) :
    ((row t).emb i a).val = (![0, 8 * t.val, 0] : Fin 3 → ℕ) a + (i a).val := by
  show (![0, 8 * t.val, 0] : Fin 3 → ℕ) a + 1 * (i a).val = _
  rw [Nat.one_mul]

theorem mem_row (t : Fin cfg0.N) (y : S4x64x128.Idx) : y ∈ (row t).set ↔ (y 0).val = 0 ∧ 8 * t.val ≤ (y 1).val ∧ (y 1).val < 8 * t.val + 8 := by
  rw [Rect.mem_set_unit]
  constructor
  · intro h
    have h0 := h 0
    have h1 := h 1
    change 0 ≤ (y 0).val ∧ (y 0).val < 0 + 1 at h0
    change 8 * t.val ≤ (y 1).val ∧ (y 1).val < 8 * t.val + 8 at h1
    omega
  · intro h a
    match a with
    | 0 => show 0 ≤ (y 0).val ∧ (y 0).val < 0 + 1; omega
    | 1 => exact h.2
    | 2 => show 0 ≤ (y 2).val ∧ (y 2).val < 0 + 128; have : (y 2).val < 128 := (y 2).isLt; omega

theorem row_set (t : Fin cfg0.N) : (comm.access (row t)).set = (row t).set := View.set_slice_whole _ _

/-- An element of the rows, by its place in the block. -/
theorem exists_row (t : Fin cfg0.N) (y : S4x64x128.Idx) (h : y ∈ (row t).set) : ∃ i : S1x8x128.Idx, (row t).emb i = y := by
  obtain ⟨h0, h1, h2⟩ := (mem_row t y).mp h
  refine ⟨ix3 (0 : Fin 1) (⟨(y 1).val - 8 * t.val, by omega⟩ : Fin 8) (y 2), ?_⟩
  funext a
  match a with
  | 0 => exact Fin.ext ((row_emb t _ 0).trans (by show 0 + 0 = (y 0).val; omega))
  | 1 => exact Fin.ext ((row_emb t _ 1).trans (by show 8 * t.val + ((y 1).val - 8 * t.val) = (y 1).val; omega))
  | 2 => exact Fin.ext ((row_emb t _ 2).trans (by show 0 + (y 2).val = (y 2).val; omega))

/-- The sums a device's own rows are to hold. -/
theorem full_row (c : Dev nD) (t : Fin cfg0.N) (i : S1x8x128.Idx) : full m c ((row t).emb i) = part (xblk m t c) i := by
  have e0 := row_emb t i 0
  have e1 := row_emb t i 1
  have e2 := row_emb t i 2
  change ((row t).emb i 0).val = 0 + (i 0).val at e0
  change ((row t).emb i 1).val = 8 * t.val + (i 1).val at e1
  change ((row t).emb i 2).val = 0 + (i 2).val at e2
  have hi0 : (i 0).val < 1 := (i 0).isLt
  have hi1 : (i 1).val < 8 := (i 1).isLt
  show sums m (ahead ((row t).emb i 0) c) ((row t).emb i 1) ((row t).emb i 2) = _
  have a0 : ahead ((row t).emb i 0) c = c := by
    rw [show (row t).emb i 0 = (0 : Fin 4) from Fin.ext (by show _ = 0; omega), ahead_zero]
  have a1 : ptOf ((row t).emb i 1) = t := Fin.ext (by show ((row t).emb i 1).val / 8 = t.val; omega)
  unfold sums
  rw [a0, a1]
  refine congrArg (part (xblk m t c)) ?_
  funext a
  match a with
  | 0 => exact Fin.ext (by show 0 = (i 0).val; omega)
  | 1 => exact Fin.ext (by show ((row t).emb i 1).val % 8 = (i 1).val; omega)
  | 2 => exact Fin.ext (by show ((row t).emb i 2).val = (i 2).val; omega)

/-- Storing point `t`'s sums extends what is so far. -/
theorem sofar_step (c : Dev nD) (t : Fin cfg0.N) (f : (cc0_scratch0 : Ref sig .tc).ty.Contents (Elt F)) (h : sofar m c t.val f) :
    sofar m c (t.val + 1) ((comm.access (row t)).write (Elt F) f (part (xblk m t c)) Finset.univ) := by
  intro y h0 h1
  by_cases hy : y ∈ (row t).set
  · obtain ⟨i, rfl⟩ := exists_row t y hy
    rw [full_row]
    exact View.write_emb_of_mem (v := comm.access (row t)) f (part (xblk m t c)) (Finset.mem_univ i)
  · refine (View.write_of_not_mem (v := comm.access (row t)) f (part (xblk m t c)) Finset.univ ?_).trans (h y h0 ?_)
    · intro h'; exact hy ((row_set t) ▸ h')
    · rw [mem_row] at hy; omega

end Cert.KernelIdeal.Norm

end
-- ==== Proof.KernelIdeal.Exchange.lean ====
/-
  The exchange, run: every device lends its slots by a signal to each peer, waits for the three signals to itself, sends its sums
  to the three peers, and waits for its three copies to go and three to come. It ends with every slot filled and every cell closed.
-/
module

public import proofs.«01_k».proof.Proof.KernelIdeal.Access

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The counters of the `j`-th send and receive cell, at zero. -/
def idleCells (j : Fin 3) : sProp 𝕄 := iprop(semVal (sendCell c j) 0 ∗ semVal (recvCell c j) 0)

/-- Every counter the exchange uses, at zero. -/
def closed : sProp 𝕄 := iprop(semVal (barCell c) 0 ∗ idleCells c 0 ∗ idleCells c 1 ∗ idleCells c 2)

/-- A load of slot `k` of the buffer filled. -/
theorem step_slot {α : Type} {Q : α → sProp 𝕄} {k : Vec F S1x64x128 .f32 → Prog (TpuEff nD τ sig (Elt F) Λ₀ .tc) α} (s : Fin 4)
    {hl : (comm : Memref sig .tc .vmem S4x64x128 .f32).view.LoadsAt (slab s).toLoadRect} :
    commPts c (full m c)
      ⊢ iprop((commPts c (full m c) -∗ wp frame (wpE (defs₀ (F := F)) 𝒱₀ (c : Thread nD τ) none) Set.univ (k (slotVal m c s)) Q)
          -∗ wp frame (wpE (defs₀ (F := F)) 𝒱₀ (c : Thread nD τ) none) Set.univ (.op (.load comm (slab s).toLoadRect hl) k) Q) := by
  unfold commPts
  iintro H Hk
  iapply (wp_load_rect 𝒱₀ (c : Thread nD τ) none Set.univ (m := comm) (r := slab s) (Finset.subset_univ _)) $$ H
  iintro H
  rw [read_slab]
  iapply Hk
  iexact H

set_option maxHeartbeats 1600000 in
theorem exchange {α : Type} {Q : α → sProp 𝕄} {k : FVec F S64x128 .f32 → Prog (TpuEff nD τ sig (Elt F) Λ₀ .tc) α}
    {i : grid0.Coords} (h : k0_cond1 i = 1#1) (arg1 : Memref sig .tc .vmem S1024x2048 .f32) (harg1 : arg1.IsWhole)
    (arg2 : Memref sig .tc .vmem S64x128 .f32) (harg2 : arg2.IsWhole) (v2 : BitVec 32)
    (f : (cc0_scratch0 : Ref sig .tc).ty.Contents (Elt F)) (hf : ∀ y ∈ (slot 0).view.set, f y = full m c y) (W : Waits sig Unit) :
    iprop(opened m c ∗ levAts L lv ∗ owes (c : Thread nD τ) (O₀ c) W ∗ commPts c f)
      ⊢ iprop((closed c ∗ commPts c (full m c) ∗ (∃ W, owes (c : Thread nD τ) 0 W)
            -∗ wp frame (wpE (defs₀ (F := F)) 𝒱₀ (c : Thread nD τ) none) Set.univ
                (k (k0_pay3 (slotVal m c 0) (slotVal m c 1) (slotVal m c 2) (slotVal m c 3))) Q)
          -∗ wp frame (wpE (defs₀ (F := F)) 𝒱₀ (c : Thread nD τ) none) Set.univ (do
              let ⟨v84, c2_i32_45⟩ ← k0_part1 i arg1 harg1 arg2 harg2 comm (Memref.isWhole_whole _) cc0_scratch1 cc0_scratch2 c v2 h
              let ⟨v96, v108⟩ ← k0_part2 i arg1 harg1 arg2 harg2 comm (Memref.isWhole_whole _) cc0_scratch1 cc0_scratch2 c v2 h c2_i32_45
              k0_part3 i arg1 harg1 arg2 harg2 comm (Memref.isWhole_whole _) cc0_scratch1 cc0_scratch2 v84 v96
              let v173 ← k0_part4 i arg1 harg1 arg2 harg2 comm (Memref.isWhole_whole _) cc0_scratch1 cc0_scratch2 v108
              k v173) Q) := by
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret]
  unfold opened toks awake commPts
  rw [comm_slots, slotPts_congr 0 c fullShare hf]
  simp only [three]
  iintro ⟨⟨%K, Hbar, ⟨#Hp0, ⟨Ht0, Hr0, Hs0, Hc0⟩, Has0, Har0, #Hrs0, #Hrr0⟩, ⟨#Hp1, ⟨Ht1, Hr1, Hs1, Hc1⟩, Has1, Har1, #Hrs1, #Hrr1⟩,
    #Hp2, ⟨Ht2, Hr2, Hs2, Hc2⟩, Has2, Har2, #Hrs2, #Hrr2⟩, #Hl, HO, Hx0, Hx1, Hx2, Hx3⟩ Hk
  unfold O₀
  iapply (step_signal m K c 0 (dev1_eq c h) rfl rfl (dueCopies c + dueBar c 2 + dueBar c 1) W) $$ [HO Ht0 Hx1]
  · isplitr; · iexact Hp0
    isplitl [HO]; · iexact HO
    isplitl [Ht0]; · iexact Ht0
    isplitl [Hx1]; · iexists f; iexact Hx1
    iexact Hrr0
  iintro HO
  iapply (step_signal m K c 1 (dev2_eq c h) rfl rfl (dueCopies c + dueBar c 2) W) $$ [HO Ht1 Hx2]
  · isplitr; · iexact Hp1
    isplitl [HO]; · iexact HO
    isplitl [Ht1]; · iexact Ht1
    isplitl [Hx2]; · iexists f; iexact Hx2
    iexact Hrr1
  iintro HO
  iapply (step_signal m K c 2 (dev3_eq c h) rfl rfl (dueCopies c) W) $$ [HO Ht2 Hx3]
  · isplitr; · iexact Hp2
    isplitl [HO]; · iexact HO
    isplitl [Ht2]; · iexact Ht2
    isplitl [Hx3]; · iexists f; iexact Hx3
    iexact Hrr2
  iintro HO
  iapply (step_barrier m K c rfl rfl W) $$ [Hbar HO]
  · isplitl [Hbar]; · iexact Hbar
    isplitr; · iexact Hl
    iexact HO
  iintro ⟨⟨%W', HO⟩, Hz, Hb0, Hb1, Hb2⟩
  ihave Hx := (slot0_shares c (full m c)).1 $$ Hx0
  icases Hx with ⟨Hx0, Hx1, Hx2⟩
  unfold dueCopies
  iapply (step_copy m K c 0 (dev4_eq c h) rfl rfl (send_sem 0) (recv_sem 2) (dueRecv c 2 + dueRecv c 1) W') $$ [Hx0 Hb2 HO Hs0 Hr0]
  · isplitr; · iexact Hp0
    isplitl [Hx0]; · iexact Hx0
    isplitl [Hb2]; · iexact Hb2
    isplitl [HO]; · iexact HO
    isplitl [Hs0]; · iexact Hs0
    isplitr; · iexact Hrs0
    iexact Hr0
  iintro ⟨Hd0, HO⟩
  iapply (step_copy m K c 1 (dev5_eq c h) rfl rfl (send_sem 1) (recv_sem 1) (dueRecv c 2) W') $$ [Hx1 Hb1 HO Hs1 Hr1]
  · isplitr; · iexact Hp1
    isplitl [Hx1]; · iexact Hx1
    isplitl [Hb1]; · iexact Hb1
    isplitl [HO]; · iexact HO
    isplitl [Hs1]; · iexact Hs1
    isplitr; · iexact Hrs1
    iexact Hr1
  iintro ⟨Hd1, HO⟩
  ihave HO := (Entails.of_eq (congrArg (fun O => owes (c : Thread nD τ) O W') (zero_add (dueRecv c 2)).symm)) $$ HO
  iapply (step_copy m K c 2 (dev6_eq c h) rfl rfl (send_sem 2) (recv_sem 0) (0) W') $$ [Hx2 Hb0 HO Hs2 Hr2]
  · isplitr; · iexact Hp2
    isplitl [Hx2]; · iexact Hx2
    isplitl [Hb0]; · iexact Hb0
    isplitl [HO]; · iexact HO
    isplitl [Hs2]; · iexact Hs2
    isplitr; · iexact Hrs2
    iexact Hr2
  iintro ⟨Hd2, HO⟩
  ihave HO := (show owes (c : Thread nD τ) 0 W' ⊢ (iprop(∃ W, owes (c : Thread nD τ) 0 W) : sProp 𝕄) from by iintro H; iexists W'; iexact H) $$ HO
  iapply (step_sent m K c 0 (src := slot 3) (N_slot 0) (send_sem 0)) $$ [Hd0 HO Has0]
  · isplitr; · iexact Hp0
    isplitl [Hd0]; · iexact Hd0
    isplitl [HO]; · iexact HO
    iexact Has0
  iintro ⟨HO, Hzs0, Hx0⟩
  iapply (step_received m K c 2 (src := slot 0) (N_slot 3) (recv_sem 2)) $$ [Hc2 HO Har2]
  · isplitr; · iexact Hp2
    isplitl [Hc2]; · iexact Hc2
    isplitl [HO]; · iexact HO
    iexact Har2
  iintro ⟨HO, Hzr2, Hf3⟩
  iapply (step_sent m K c 1 (src := slot 2) (N_slot 0) (send_sem 1)) $$ [Hd1 HO Has1]
  · isplitr; · iexact Hp1
    isplitl [Hd1]; · iexact Hd1
    isplitl [HO]; · iexact HO
    iexact Has1
  iintro ⟨HO, Hzs1, Hx1⟩
  iapply (step_received m K c 1 (src := slot 0) (N_slot 2) (recv_sem 1)) $$ [Hc1 HO Har1]
  · isplitr; · iexact Hp1
    isplitl [Hc1]; · iexact Hc1
    isplitl [HO]; · iexact HO
    iexact Har1
  iintro ⟨HO, Hzr1, Hf2⟩
  iapply (step_sent m K c 2 (src := slot 1) (N_slot 0) (send_sem 2)) $$ [Hd2 HO Has2]
  · isplitr; · iexact Hp2
    isplitl [Hd2]; · iexact Hd2
    isplitl [HO]; · iexact HO
    iexact Has2
  iintro ⟨HO, Hzs2, Hx2⟩
  iapply (step_received m K c 0 (src := slot 0) (N_slot 1) (recv_sem 0)) $$ [Hc0 HO Har0]
  · isplitr; · iexact Hp0
    isplitl [Hc0]; · iexact Hc0
    isplitl [HO]; · iexact HO
    iexact Har0
  iintro ⟨HO, Hzr0, Hf1⟩
  ihave Hf := (show iprop(slotPts 0 c (sh 0) (full m c) ∗ slotPts 0 c (sh 1) (full m c) ∗ slotPts 0 c (sh 2) (full m c)
      ∗ slotPts 1 c fullShare (full m c) ∗ slotPts 2 c fullShare (full m c) ∗ slotPts 3 c fullShare (full m c))
      ⊢ (commPts c (full m c) : sProp 𝕄) from by
    unfold commPts
    rw [comm_slots]
    iintro ⟨H0, H1, H2, H3⟩
    isplitl [H0 H1 H2]
    · iapply (slot0_shares c (full m c)).2
      isplitl [H0]; · iexact H0
      isplitl [H1]; · iexact H1
      iexact H2
    iexact H3) $$ [Hx0 Hx1 Hx2 Hf1 Hf2 Hf3]
  · isplitl [Hx0]; · iexact Hx0
    isplitl [Hx1]; · iexact Hx1
    isplitl [Hx2]; · iexact Hx2
    isplitl [Hf1]; · iexact Hf1
    isplitl [Hf2]; · iexact Hf2
    iexact Hf3
  iapply (step_slot m c 0) $$ Hf
  iintro Hf
  iapply (step_slot m c 1) $$ Hf
  iintro Hf
  iapply (step_slot m c 2) $$ Hf
  iintro Hf
  iapply (step_slot m c 3) $$ Hf
  iintro Hf
  iapply Hk
  isplitl [Hz Hzs0 Hzr0 Hzs1 Hzr1 Hzs2 Hzr2]
  · unfold closed idleCells
    isplitl [Hz]; · iexact Hz
    isplitl [Hzs0 Hzr0]
    · isplitl [Hzs0]; · iexact Hzs0
      iexact Hzr0
    isplitl [Hzs1 Hzr1]
    · isplitl [Hzs1]; · iexact Hzs1
      iexact Hzr1
    isplitl [Hzs2]; · iexact Hzs2
    iexact Hzr2
  isplitl [Hf]; · unfold commPts; iexact Hf
  iexact HO

end Cert.KernelIdeal.Norm

end
-- ==== Proof.KernelIdeal.Body0.lean ====
/-
  The first region's body: at every grid point a block of sums of squares goes into the scratch buffer's slot 0, and at the
  last point the exchange runs and the result is written. The proof data of the region and its body obligation.
-/
module

public import proofs.«01_k».proof.Proof.KernelIdeal.Exchange
public import proofs.«01_k».proof.Proof.Gen.KernelIdeal.Points

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The grid -/

/-- The exchange runs at the last point alone. -/
theorem cond_iff : ∀ t : Fin cfg0.N, k0_cond1 (grid0.coords t) = 1#1 ↔ t.val = 7 := by decide

/-- The rows that a point writes begin at eight times its number. -/
theorem off_row : ∀ t : Fin cfg0.N, k0_off1 (grid0.coords t) = ![0, 8 * t.val, 0] := by
  intro t
  rw [k0_off1_eq]
  revert t
  decide

variable (m : (ℓ : Loc nD τ sig) → Buf (Elt F) ℓ) (c : Dev nD)

/-- A load and a store of the rows of point `t`, the store of that point's sums. -/
theorem step_rows {α : Type} {Q : α → sProp 𝕄} (t : Fin cfg0.N) {off : Fin 3 → ℕ} (hoff : off = ![0, 8 * t.val, 0])
    (inb : ∀ a, off a + S1x8x128.size a ≤ S4x64x128.size a)
    {hl : (comm : Memref sig .tc .vmem S4x64x128 .f32).view.LoadsAt (Rect.unit (s := S4x64x128) off S1x8x128.size inb).toLoadRect}
    {hx : ((comm : Memref sig .tc .vmem S4x64x128 .f32).access (Rect.unit (s := S4x64x128) off S1x8x128.size inb)).Stores Finset.univ}
    {hm : (Finset.univ : Finset (Rect.unit (s := S4x64x128) off S1x8x128.size inb).shape.Idx) = Finset.univ
      ∨ ∀ a, (Rect.unit (s := S4x64x128) off S1x8x128.size inb).stride a = 1}
    {k : PUnit → Prog (TpuEff nD τ sig (Elt F) Λ₀ .tc) α} (f : (cc0_scratch0 : Ref sig .tc).ty.Contents (Elt F))
    (hf : sofar m c t.val f) :
    commPts c f
      ⊢ iprop(((∃ f, ⌜sofar m c (t.val + 1) f⌝ ∗ commPts c f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load comm (Rect.unit (s := S4x64x128) off S1x8x128.size inb).toLoadRect hl) fun _ =>
                .op (.store comm (Rect.unit (s := S4x64x128) off S1x8x128.size inb) (part (xblk m t c)) Finset.univ hx hm) k) Q) := by
  subst hoff
  unfold commPts
  iintro H Hk
  iapply (wp_load_rect 𝒱₀ (c : Thread nD τ) none Set.univ (m := comm) (r := row t) (Finset.subset_univ _)) $$ H
  iintro H
  iapply (wp_store 𝒱₀ (c : Thread nD τ) none Set.univ (m := comm) (r := row t) (Mk := Finset.univ) (Finset.subset_univ _)) $$ H
  iintro H
  iapply Hk
  iexists _
  isplitr; swap; · iexact H
  ipureintro
  exact sofar_step m c t f hf

/-- The part of the body that every point runs: the block of `x` is loaded and its sums stored. -/
theorem step_head {α : Type} {Q : α → sProp 𝕄} (t : Fin cfg0.N) (arg1 : Memref sig .tc .vmem S1024x2048 .f32)
    {o1 : Fin 2 → ℕ} (inb1 : ∀ a, o1 a + S1024x2048.size a ≤ S1024x2048.size a)
    {hl1 : arg1.view.LoadsAt (Rect.unit (s := S1024x2048) o1 S1024x2048.size inb1).toLoadRect}
    {off : Fin 3 → ℕ} (hoff : off = ![0, 8 * t.val, 0])
    (inb : ∀ a, off a + S1x8x128.size a ≤ S4x64x128.size a)
    {hl : (comm : Memref sig .tc .vmem S4x64x128 .f32).view.LoadsAt (Rect.unit (s := S4x64x128) off S1x8x128.size inb).toLoadRect}
    {hx : ((comm : Memref sig .tc .vmem S4x64x128 .f32).access (Rect.unit (s := S4x64x128) off S1x8x128.size inb)).Stores Finset.univ}
    {hm : (Finset.univ : Finset (Rect.unit (s := S4x64x128) off S1x8x128.size inb).shape.Idx) = Finset.univ
      ∨ ∀ a, (Rect.unit (s := S4x64x128) off S1x8x128.size inb).stride a = 1}
    {k : PUnit → Prog (TpuEff nD τ sig (Elt F) Λ₀ .tc) α} (f : (cc0_scratch0 : Ref sig .tc).ty.Contents (Elt F))
    (hf : sofar m c t.val f) :
    iprop(owns (c : Thread nD τ) arg1 fullShare (xblk m t c) ∗ commPts c f)
      ⊢ iprop((owns (c : Thread nD τ) arg1 fullShare (xblk m t c) ∗ (∃ f, ⌜sofar m c (t.val + 1) f⌝ ∗ commPts c f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load arg1 (Rect.unit (s := S1024x2048) o1 S1024x2048.size inb1).toLoadRect hl1) fun v =>
                .op (.load comm (Rect.unit (s := S4x64x128) off S1x8x128.size inb).toLoadRect hl) fun _ =>
                  .op (.store comm (Rect.unit (s := S4x64x128) off S1x8x128.size inb) (part v) Finset.univ hx hm) k) Q) := by
  iintro ⟨Hx, Hf⟩ Hk
  iapply (step_load c arg1 _ fullShare (xblk m t c)) $$ Hx
  iintro Hx
  iapply (step_rows m c t hoff _ f hf) $$ Hf
  iintro Hf
  iapply Hk
  isplitl [Hx]; · iexact Hx
  iexact Hf

/-- A point before the last: its sums are stored, and that is all. -/
theorem point_run (t : Fin cfg0.N) (ht : t.val ≠ 7) (arg1 : Memref sig .tc .vmem S1024x2048 .f32) (harg1 : arg1.IsWhole)
    (arg2 : Memref sig .tc .vmem S64x128 .f32) (harg2 : arg2.IsWhole) (f : (cc0_scratch0 : Ref sig .tc).ty.Contents (Elt F))
    (hf : sofar m c t.val f) (Kt : PUnit → sProp 𝕄) :
    iprop(owns (c : Thread nD τ) arg1 fullShare (xblk m t c) ∗ commPts c f)
      ⊢ iprop((owns (c : Thread nD τ) arg1 fullShare (xblk m t c) ∗ (∃ f, ⌜sofar m c (t.val + 1) f⌝ ∗ commPts c f) -∗ Kt ⟨⟩)
          -∗ wp frame (wpE (defs₀ (F := F)) 𝒱₀ (c : Thread nD τ) none) Set.univ
              (cc0__lambda_ (grid0.coords t) arg1 harg1 arg2 harg2 comm (Memref.isWhole_whole _) cc0_scratch1 cc0_scratch2) Kt) := by
  simp only [cc0__lambda__eq_skeleton]
  unfold cc0__lambda__skel
  simp only [k0_part5_eq_skeleton]
  unfold k0_part5_skel
  simp only [Prog.lift, Prog.bind_op, Prog.bind_ret, Prog.pure_eq_ret, wp_deviceId]
  iintro H Hk
  iapply (step_head m c t arg1 _ (off_row t) _ f hf) $$ H
  iintro H
  rw [dif_neg (fun h => ht ((cond_iff t).mp h))]
  rw [wp_ret]
  imodintro
  iapply Hk
  iexact H

/-- The last point: its sums are stored, the exchange runs, and the result is written. -/
theorem last_run (t : Fin cfg0.N) (ht : t.val = 7) (arg1 : Memref sig .tc .vmem S1024x2048 .f32) (harg1 : arg1.IsWhole)
    (arg2 : Memref sig .tc .vmem S64x128 .f32) (harg2 : arg2.IsWhole) (f : (cc0_scratch0 : Ref sig .tc).ty.Contents (Elt F))
    (hf : sofar m c t.val f) (X : S64x128.Idx → Elt F .f32) (W : Waits sig Unit) (Kt : PUnit → sProp 𝕄) :
    iprop(opened m c ∗ levAts L lv ∗ owes (c : Thread nD τ) (O₀ c) W ∗ owns (c : Thread nD τ) arg1 fullShare (xblk m t c)
        ∗ owns (c : Thread nD τ) arg2 fullShare X ∗ commPts c f)
      ⊢ iprop((closed c ∗ (∃ W, owes (c : Thread nD τ) 0 W) ∗ owns (c : Thread nD τ) arg1 fullShare (xblk m t c)
            ∗ owns (c : Thread nD τ) arg2 fullShare (rms m c) ∗ (∃ f, commPts c f) -∗ Kt ⟨⟩)
          -∗ wp frame (wpE (defs₀ (F := F)) 𝒱₀ (c : Thread nD τ) none) Set.univ
              (cc0__lambda_ (grid0.coords t) arg1 harg1 arg2 harg2 comm (Memref.isWhole_whole _) cc0_scratch1 cc0_scratch2) Kt) := by
  have hc := (cond_iff t).mpr ht
  simp only [cc0__lambda__eq_skeleton]
  unfold cc0__lambda__skel
  simp only [k0_part5_eq_skeleton]
  unfold k0_part5_skel
  simp only [Prog.lift, Prog.bind_op, Prog.bind_ret, Prog.pure_eq_ret, wp_deviceId]
  iintro ⟨Ho, Hl, HO, Hx, Hr, Hf⟩ Hk
  iapply (step_head m c t arg1 _ (off_row t) _ f hf) $$ [Hx Hf]
  · isplitl [Hx]; · iexact Hx
    iexact Hf
  iintro ⟨Hx, ⟨%f', %hf', Hf⟩⟩
  rw [dif_pos hc]
  iapply (exchange m c hc arg1 harg1 arg2 harg2 _ f' (sofar_eight m c f' (by rw [ht] at hf'; exact hf')) W) $$ [Ho Hl HO Hf]
  · isplitl [Ho]; · iexact Ho
    isplitl [Hl]; · iexact Hl
    isplitl [HO]; · iexact HO
    iexact Hf
  iintro ⟨Hc, Hf, HO⟩
  iapply (step_load c arg2 _ fullShare X) $$ Hr
  iintro Hr
  iapply (step_store c arg2 _ (rms m c) X) $$ Hr
  iintro Hr
  rw [wp_ret]
  imodintro
  iapply Hk
  isplitl [Hc]; · iexact Hc
  isplitl [HO]; · iexact HO
  isplitl [Hx]; · iexact Hx
  isplitl [Hr]; · iexact Hr
  iexists _; iexact Hf

/-! ## The region's proof data -/

/-- The scoped buffers of the second region, which the first leaves alone. -/
def others : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- What a point does not touch of the invariant. -/
def aside : sProp 𝕄 := iprop(others (F := F) c ∗ ∃ r, prngReg c r)

/-- The invariant before a point: the exchange is open, and the points so far have stored their sums. -/
def midway (n : ℕ) : sProp 𝕄 :=
  iprop(opened m c ∗ levAts L lv ∗ (∃ f, ⌜sofar m c n f⌝ ∗ commPts c f) ∗ aside (F := F) c)

/-- The invariant after the last point: the exchange is closed. -/
def over : sProp 𝕄 := iprop(closed (F := F) c ∗ (∃ f, commPts (F := F) c f) ∗ aside (F := F) c)

/-- The region's proof data: the first window is read, the second ends at the reciprocal roots. -/
def dat0 : Dat τ (Elt F) Unit ℕ UU ℕ cfg0 c where
  A w := match w with
    | 0 => V0 m c main_arg0
    | 1 => V0 m c main_v1
  after w t := match w with
    | 0 => xblk m t c
    | 1 => rms m c
  Φ t := if t.val < 8 then midway m c t.val else over c
  q _ := fullShare
  owed t := if t.val < 8 then O₀ c else 0

theorem dat0_Φ_lt (t : Fin (cfg0.N + 1)) (h : t.val < 8) : (dat0 m c).Φ t = midway m c t.val := if_pos h
theorem dat0_Φ_eq (t : Fin (cfg0.N + 1)) (h : t.val = 8) : (dat0 m c).Φ t = over c := if_neg (by omega)
theorem dat0_owed_lt (t : Fin (cfg0.N + 1)) (h : t.val < 8) : (dat0 m c).owed t = O₀ c := if_pos h
theorem dat0_owed_eq (t : Fin (cfg0.N + 1)) (h : t.val = 8) : (dat0 m c).owed t = 0 := if_neg (by omega)

theorem before0_0 (t : Fin cfg0.N) (d) : (dat0 m c).before 0 t d = xblk m t c := by
  unfold Dat.before; rw [if_pos (fetch0_0 t)]; rfl

/-- What a core owes, as the pipeline keeps it and as the steps do. -/
theorem owesAt_iff {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (dat.owesAt () t : sProp 𝕄) ⊣⊢ iprop(∃ W, owes (c : Thread nD τ) O W) := by
  unfold Dat.owesAt Pipeline.owesWithin Dat.bound
  rw [h0, hr]
  constructor
  · iintro ⟨%W, -, H⟩; iexists W; iexact H
  · iintro ⟨%W, H⟩; iexists W
    isplitr; · ipureintro; exact fun _ _ => Or.inl trivial
    iexact H

/-- The second window is left alone before the last point, and written back after it alone. -/
theorem idle0_lt (t : Fin cfg0.N) (h : t.val ≠ 7) : idle0 1 (grid0.coords t) = true := by
  show (!(k0_cond1 (grid0.coords t) == 1#1)) = true
  rw [beq_eq_false_iff_ne.mpr (fun e => h ((cond_iff t).mp e))]; rfl
theorem idle0_last (t : Fin cfg0.N) (h : t.val = 7) : idle0 1 (grid0.coords t) = false := by
  show (!(k0_cond1 (grid0.coords t) == 1#1)) = false
  rw [beq_iff_eq.mpr ((cond_iff t).mpr h)]; rfl
theorem flush0_lt (t : Fin cfg0.N) (h : t.val ≠ 7) : (win0 1).flush t = false := by
  have hN : t.val < 8 := t.isLt
  exact Bool.eq_false_iff.mpr fun e => h (by have := (flush0_1 t).mp e; omega)

/-- The body's obligation, at every point. -/
theorem body_obligation0 : BodyObligation (dat0 m c) (defs₀ (F := F)) 𝒱₀ () Set.univ := fun t => by
  have hN : t.val < 8 := t.isLt
  rw [bigSep_W0, bigSep_W0]
  rw [dat0_Φ_lt m c t.castSucc hN]
  show _ ⊢ wp frame (wpE (defs₀ (F := F)) 𝒱₀ (c : Thread nD τ) none) Set.univ (bodyAt0 t) _
  dsimp only
  by_cases h : t.val = 7
  · rw [dat0_Φ_eq m c t.succ (by show t.val + 1 = 8; omega), idle0_last t h]
    unfold midway
    iintro ⟨⟨Ho, Hl, ⟨%f, %hf, Hf⟩, Ha⟩, HO, ⟨%d0, Hx⟩, %d1, Hr⟩
    ihave HO := (owesAt_iff (dat0 m c) t.castSucc (O₀ c) (dat0_owed_lt m c _ hN) rfl).1 $$ HO
    icases HO with ⟨%W, HO⟩
    rw [before0_0]
    iapply (last_run m c t h _ _ _ _ f hf ((dat0 m c).before 1 t d1) W _) $$ [Ho Hl HO Hx Hr Hf]
    · isplitl [Ho]; · iexact Ho
      isplitl [Hl]; · iexact Hl
      isplitl [HO]; · iexact HO
      isplitl [Hx]; · iexact Hx
      isplitl [Hr]; · iexact Hr
      iexact Hf
    iintro ⟨Hc, HO, Hx, Hr, Hf⟩
    unfold over
    isplitl [Hc Hf Ha]
    · isplitl [Hc]; · iexact Hc
      isplitl [Hf]; · iexact Hf
      iexact Ha
    isplitl [HO]
    · iapply (owesAt_iff (dat0 m c) t.succ 0 (dat0_owed_eq m c _ (by show t.val + 1 = 8; omega)) rfl).2
      iexact HO
    isplitl [Hx]; · iexact Hx
    iexact Hr
  · have hs : t.succ.val < 8 := by show t.val + 1 < 8; omega
    rw [dat0_Φ_lt m c t.succ hs, idle0_lt t h, flush0_lt t h]
    unfold midway
    iintro ⟨⟨Ho, Hl, ⟨%f, %hf, Hf⟩, Ha⟩, HO, ⟨%d0, Hx⟩, Hr⟩
    ihave HO := (owesAt_iff (dat0 m c) t.castSucc (O₀ c) (dat0_owed_lt m c _ hN) rfl).1 $$ HO
    rw [before0_0]
    iapply (point_run m c t h _ _ _ _ f hf _) $$ [Hx Hf]
    · isplitl [Hx]; · iexact Hx
      iexact Hf
    iintro ⟨Hx, Hf⟩
    isplitl [Ho Hl Hf Ha]
    · isplitl [Ho]; · iexact Ho
      isplitl [Hl]; · iexact Hl
      isplitl [Hf]; · iexact Hf
      iexact Ha
    isplitl [HO]
    · iapply (owesAt_iff (dat0 m c) t.succ (O₀ c) (dat0_owed_lt m c _ hs) rfl).2
      iexact HO
    isplitl [Hx]; · iexact Hx
    iexact Hr

end Cert.KernelIdeal.Norm

end
-- ==== Proof.KernelIdeal.Body1.lean ====
/-
  The second region: at every grid point a block of `x` is multiplied by the reciprocal roots of its rows and by `gamma`.
  What the program's buffers hold between its items, the region's proof data, its body obligation, and what its result holds.
-/
module

public import proofs.«01_k».proof.Proof.KernelIdeal.Body0
public import proofs.«01_k».proof.Proof.Gen.KernelIdeal.Regions
public import Idealize.ShloMosaic.Lib.Pipeline.ValueKit

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## The contents between the items -/

/-- Device `c`'s buffers when the second region begins: the first region's result is in, and its reshape and `gamma`'s. -/
def mid : Valuation τ sig (Elt F) := StableHlo.after hostOps1 (Function.update (V0 m c) main_v1 (rms m c))

/-- The blocks that the second region reads at point `t`: of `x`, of the reciprocal roots, and `gamma`. -/
def xblk1 (t : Fin cfg1.N) : Vec F S1024x2048 .f32 := (win1_0.blk t).view.read (Elt F) (mid m c main_arg0)
def rblk1 (t : Fin cfg1.N) : Vec F S1024x1 .f32 := (win1_1.blk t).view.read (Elt F) (mid m c main_v2)
def gblk1 (t : Fin cfg1.N) : Vec F S1x2048 .f32 := (win1_2.blk t).view.read (Elt F) (mid m c main_v3)

/-- What the second region stores at point `t`. -/
def scaled (t : Fin cfg1.N) : Vec F S1024x2048 .f32 := k1_pay1 (xblk1 m c t) (rblk1 m c t) (gblk1 m c t)

/-- The grid point whose block covers row `r` of the result. -/
def ptOf1 (r : Fin 8192) : Fin cfg1.N := ⟨r.val / 1024, by have : cfg1.N = 8 := N_1; omega⟩

/-- The program's result on device `c`. -/
def normed : (main_v4 : Ref sig .tc).ty.Contents (Elt F) := fun y : S8192x2048.Idx =>
  scaled m c (ptOf1 (y 0)) (ix2 (⟨(y 0).val % 1024, Nat.mod_lt _ (by decide)⟩ : Fin 1024) (y 1))

/-- What the two regions leave: the reciprocal roots and the result. -/
def outs : Outs (F := F) := fun _ r c =>
  if h : r = main_v1 then h ▸ (rms m c : Buf (Elt F) ((c : Thread nD τ).loc main_v1))
  else if h : r = main_v4 then h ▸ (normed m c : Buf (Elt F) ((c : Thread nD τ).loc main_v4))
  else V0 m c r

theorem outs_v1 : outs m 1 main_v1 c = rms m c := dif_pos rfl
theorem outs_v4 : outs m 3 main_v4 c = normed m c := (dif_neg (by decide)).trans (dif_pos rfl)
theorem V2_outs : V2 m (outs m) c = mid m c := by unfold V2 V1; rw [outs_v1]; rfl

/-! ## The region's proof data -/

/-- The region's proof data: three windows are read, the fourth is written at every point. -/
def dat1 : Dat τ (Elt F) Unit ℕ UU ℕ cfg1 c where
  A w := match w with
    | 0 => mid m c main_arg0
    | 1 => mid m c main_v2
    | 2 => mid m c main_v3
    | 3 => mid m c main_v4
  after w t := match w with
    | 0 => xblk1 m c t
    | 1 => rblk1 m c t
    | 2 => gblk1 m c t
    | 3 => scaled m c t
  Φ _ := iprop(Pipeline.scopedRest (cfgs 1).spec c ∗ ∃ r, prngReg c r)
  q _ := fullShare
  owed _ := 0

theorem before1_0 (t : Fin cfg1.N) (d) : (dat1 m c).before 0 t d = xblk1 m c t :=
  ((dat1 m c).before_fetched 0 t (fetch1_0 t) d).trans rfl
theorem before1_1 (t : Fin cfg1.N) (d) : (dat1 m c).before 1 t d = rblk1 m c t :=
  ((dat1 m c).before_fetched 1 t (fetch1_1 t) d).trans rfl
theorem before1_2 (t : Fin cfg1.N) (d) : (dat1 m c).before 2 t d = gblk1 m c t :=
  ((dat1 m c).before_in_eq_fetched 2 rfl (fun _ => rfl) (fun _ _ _ => rfl) (fun _ => rfl) t d).trans rfl

/-- The body, at every point. -/
theorem body1_run (t : Fin cfg1.N) (arg1 : Memref sig .tc .vmem S1024x2048 .f32) (harg1 : arg1.IsWhole)
    (arg2 : Memref sig .tc .vmem S1024x1 .f32) (harg2 : arg2.IsWhole) (arg3 : Memref sig .tc .vmem S1x2048 .f32) (harg3 : arg3.IsWhole)
    (arg4 : Memref sig .tc .vmem S1024x2048 .f32) (harg4 : arg4.IsWhole) (x : Vec F S1024x2048 .f32) (r : Vec F S1024x1 .f32)
    (g : Vec F S1x2048 .f32) (X : S1024x2048.Idx → Elt F .f32) (Kt : PUnit → sProp 𝕄) :
    iprop(owns (c : Thread nD τ) arg1 fullShare x ∗ owns (c : Thread nD τ) arg2 fullShare r ∗ owns (c : Thread nD τ) arg3 fullShare g
        ∗ owns (c : Thread nD τ) arg4 fullShare X)
      ⊢ iprop((owns (c : Thread nD τ) arg1 fullShare x ∗ owns (c : Thread nD τ) arg2 fullShare r
            ∗ owns (c : Thread nD τ) arg3 fullShare g ∗ owns (c : Thread nD τ) arg4 fullShare (k1_pay1 x r g) -∗ Kt ⟨⟩)
          -∗ wp frame (wpE (defs₀ (F := F)) 𝒱₀ (c : Thread nD τ) none) Set.univ
              (cc1__normalize_body (grid1.coords t) arg1 harg1 arg2 harg2 arg3 harg3 arg4 harg4) Kt) := by
  simp only [cc1__normalize_body_eq_skeleton]
  unfold cc1__normalize_body_skel
  simp only [Prog.lift, Prog.bind_op, Prog.bind_ret, Prog.pure_eq_ret]
  iintro ⟨Hx, Hr, Hg, Ho⟩ Hk
  iapply (step_load c arg1 _ fullShare x) $$ Hx
  iintro Hx
  iapply (step_load c arg2 _ fullShare r) $$ Hr
  iintro Hr
  iapply (step_load c arg3 _ fullShare g) $$ Hg
  iintro Hg
  iapply (step_load c arg4 _ fullShare X) $$ Ho
  iintro Ho
  iapply (step_store c arg4 _ (k1_pay1 x r g) X) $$ Ho
  iintro Ho
  rw [wp_ret]
  imodintro
  iapply Hk
  isplitl [Hx]; · iexact Hx
  isplitl [Hr]; · iexact Hr
  isplitl [Hg]; · iexact Hg
  iexact Ho

/-- The body's obligation, at every point. -/
theorem body_obligation1 : BodyObligation (dat1 m c) (defs₀ (F := F)) 𝒱₀ () Set.univ := fun t => by
  rw [bigSep_W1, bigSep_W1]
  show _ ⊢ wp frame (wpE (defs₀ (F := F)) 𝒱₀ (c : Thread nD τ) none) Set.univ (bodyAt1 t) _
  dsimp only
  iintro ⟨HΦ, HO, ⟨%d0, Hx⟩, ⟨%d1, Hr⟩, ⟨%d2, Hg⟩, %d3, Ho⟩
  rw [before1_0, before1_1, before1_2, show (dat1 m c).Φ t.succ = (dat1 m c).Φ t.castSucc from rfl]
  iapply (body1_run c t _ _ _ _ _ _ _ _ (xblk1 m c t) (rblk1 m c t) (gblk1 m c t) ((dat1 m c).before 3 t d3) _) $$ [Hx Hr Hg Ho]
  · isplitl [Hx]; · iexact Hx
    isplitl [Hr]; · iexact Hr
    isplitl [Hg]; · iexact Hg
    iexact Ho
  iintro ⟨Hx, Hr, Hg, Ho⟩
  isplitl [HΦ]; · iexact HΦ
  isplitl [HO]; · iexact HO
  isplitl [Hx]; · iexact Hx
  isplitl [Hr]; · iexact Hr
  isplitl [Hg]; · iexact Hg
  iexact Ho

/-! ## What the results hold -/

theorem index1_3 : ∀ t : Fin cfg1.N, win1_3.index t = ![t.val, 0] := by decide +kernel

/-- The second region's result, from its blocks. -/
theorem final1 : (dat1 m c).arrAt 3 cfg1.N = normed m c := by
  refine (dat1 m c).arrAt_eq_of_covers 3 _ (by decide +kernel) fun t _ y => ?_
  have e0 : ((win1_3.blk t).view.emb y 0).val = t.val * 1024 + (y 0).val := by blk_simp [index1_3]
  have e1 : ((win1_3.blk t).view.emb y 1).val = (y 1).val := by blk_simp [index1_3]
  have h0 : (y 0).val < 1024 := (y 0).isLt
  show scaled m c t y = scaled m c (ptOf1 _) _
  have ht : ptOf1 ((win1_3.blk t).view.emb y 0) = t := Fin.ext (by show ((win1_3.blk t).view.emb y 0).val / 1024 = t.val; omega)
  rw [ht]
  refine congrArg (scaled m c t) (funext fun a => ?_)
  match a with
  | 0 => exact Fin.ext (by show (y 0).val = ((win1_3.blk t).view.emb y 0).val % 1024; omega)
  | 1 => exact Fin.ext e1.symm

/-- The first region's result: what the last point stores. -/
theorem final0 : (dat0 m c).arrAt 1 cfg0.N = rms m c := by
  refine (dat0 m c).arrAt_eq_of_after_last 1 (⟨7, by decide +kernel⟩ : Fin cfg0.N) (by decide +kernel) _ fun y => ?_
  rfl

end Cert.KernelIdeal.Norm

end
-- ==== Proof.KernelIdeal.Segs.lean ====
/-
  The two regions as segments of the program: what each is entered with and left with.
-/
module

public import proofs.«01_k».proof.Proof.KernelIdeal.Body1
public import Idealize.ShloMosaic.Lib.Pipeline.RegionTalk
public import Idealize.ShloMosaic.Lib.Pipeline.RegionArraysS

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-- The regions' proof data. -/
def pdats : (p : Fin 2) → (c : Dev nD) → Dat τ (Elt F) Unit ℕ UU ℕ (cfgs p) c
  | 0 => dat0 m
  | 1 => dat1 m

/-- The buffers that live from the program's start to its end. -/
abbrev bufs : Finset (DevRef τ sig) := Pipeline.ucRefs τ sig

/-- The generator register, at whatever it holds. -/
abbrev reg : sProp 𝕄 := iprop(∃ r, prngReg c r)

/-! ## Opening and closing the region's own cells -/

omit [FloatOps F] in
theorem osem_at (Φ : SemLoc sig → sProp 𝕄) :
    bigSep Finset.univ (fun k : Fin 3 ⊕ Fin 3 => Φ (osem k))
      = iprop((Φ (.dma (sendS 0)) ∗ Φ (.dma (sendS 1)) ∗ Φ (.dma (sendS 2))) ∗ Φ (.dma (recvS 0)) ∗ Φ (.dma (recvS 1)) ∗ Φ (.dma (recvS 2))) := by
  refine (BI.bigSep_univ_sum _).trans ?_
  rw [three, three]
  rfl

omit [FloatOps F] in
/-- The own counters at zero are the cells idle, send by send. -/
theorem own_idle : (Pipeline.ownSems0 osem c : sProp 𝕄) ⊣⊢ iprop(idleCells c 0 ∗ idleCells c 1 ∗ idleCells c 2) := by
  rw [show (Pipeline.ownSems0 osem c : sProp 𝕄) = _ from osem_at (fun s => (semVal ((c : Thread nD τ), s) 0 : sProp 𝕄))]
  unfold idleCells
  constructor
  · iintro ⟨⟨H0, H1, H2⟩, G0, G1, G2⟩
    isplitl [H0 G0]; · isplitl [H0] <;> iassumption
    isplitl [H1 G1]; · isplitl [H1] <;> iassumption
    isplitl [H2] <;> iassumption
  · iintro ⟨⟨H0, G0⟩, ⟨H1, G1⟩, H2, G2⟩
    isplitl [H0 H1 H2]
    · isplitl [H0]; · iexact H0
      isplitl [H1] <;> iassumption
    isplitl [G0]; · iexact G0
    isplitl [G1] <;> iassumption

/-- One send cell and one receive cell, opened from their counters. -/
theorem wake (K : GSem nD τ sig → ℕ) (j : Fin 3) :
    iprop((pers m K c j ∗ toks c j ∗ asleep c j) ∗ idleCells c j) ⊢ (|={Set.univ}=> iprop(pers m K c j ∗ toks c j ∗ awake c j) : sProp 𝕄) := by
  unfold asleep idleCells awake
  iintro ⟨⟨#Hp, Ht, Hs, Hr⟩, Vs, Vr⟩
  ihave #Hq := (show pers m K c j ⊢ iprop(cellInv ER (rd m) (K (sendCell c j)) (sendCell c j) ∗ cellInv ER (rd m) (K (recvCell c j)) (recvCell c j)) by
    unfold pers
    iintro ⟨#H1, #H2, -⟩
    isplitr; · iexact H1
    iexact H2) $$ Hp
  icases Hq with ⟨#Is, #Ir⟩
  imod (Rounds.cell_open ER (rd m) (g := sendCell c j) (Set.mem_univ (K (sendCell c j)))) $$ [Hs Vs] with ⟨As, #Rs⟩
  · isplitr; · iexact Is
    isplitl [Hs] <;> iassumption
  imod (Rounds.cell_open ER (rd m) (g := recvCell c j) (Set.mem_univ (K (recvCell c j)))) $$ [Hr Vr] with ⟨Ar, #Rr⟩
  · isplitr; · iexact Ir
    isplitl [Hr] <;> iassumption
  imodintro
  isplitr; · iexact Hp
  isplitl [Ht]; · iexact Ht
  isplitl [As]; · iexact As
  isplitl [Ar]; · iexact Ar
  isplitr; · iexact Rs
  iexact Rr

/-- Entering the first region opens its cells. -/
theorem enter : iprop(ghost m c ∗ Pipeline.ownSems0 osem c ∗ levAts L lv) ⊢ (|={Set.univ}=> iprop(opened m c ∗ levAts L lv) : sProp 𝕄) := by
  unfold ghost opened
  iintro ⟨⟨%K, Hb, Hg⟩, Ho, Hl⟩
  ihave Hi := (own_idle (F := F) c).1 $$ Ho
  ihave Hg' := (Entails.of_eq (three _)) $$ Hg
  icases Hi with ⟨I0, I1, I2⟩
  icases Hg' with ⟨G0, G1, G2⟩
  imod (wake m c K 0) $$ [G0 I0] with W0
  · isplitl [G0] <;> iassumption
  imod (wake m c K 1) $$ [G1 I1] with W1
  · isplitl [G1] <;> iassumption
  imod (wake m c K 2) $$ [G2 I2] with W2
  · isplitl [G2] <;> iassumption
  imodintro
  isplitr [Hl]
  · iexists K
    isplitl [Hb]; · iexact Hb
    iapply (Entails.of_eq (three (fun j => iprop(pers m K c j ∗ toks c j ∗ awake c j))).symm)
    isplitl [W0]; · iexact W0
    isplitl [W1] <;> iassumption
  iexact Hl

/-! ## The first region -/

theorem hin0 : iprop(Pipeline.scopedRest (cfgs 0).spec c ∗ (∃ r, prngReg c r) ∗ StableHlo.held (c.tc : Thread nD τ) ∅ (V0 m c) ∗ (opened m c ∗ levAts L lv))
    ⊢ ((pdats m 0 c).Φ 0 : sProp 𝕄) := by
  rw [show (pdats m 0 c).Φ 0 = midway m c 0 from dat0_Φ_lt m c 0 (by decide),
    show (Pipeline.scopedRest (cfgs 0).spec c : sProp 𝕄) = _ from scopedRest0_eq c]
  unfold midway aside others commPts
  iintro ⟨⟨⟨%f, Hf⟩, Ho⟩, Hp, -, Hx, Hl⟩
  isplitl [Hx]; · iexact Hx
  isplitl [Hl]; · iexact Hl
  isplitl [Hf]
  · iexists f
    isplitr; · ipureintro; exact sofar_zero m c f
    iexact Hf
  isplitl [Ho]; · iexact Ho
  iexact Hp

theorem hout0 : ((pdats m 0 c).Φ (Fin.last (Pipeline.pin (pcfgs (F := F)) adm 0).N) : sProp 𝕄)
    ⊢ iprop(Pipeline.scopedRest (cfgs 0).spec c ∗ (∃ r, prngReg c r) ∗ StableHlo.held (c.tc : Thread nD τ) ∅ (V1 m (outs m) c)
      ∗ Pipeline.ownSems0 osem c ∗ semVal (barCell c) 0) := by
  rw [show (pdats m 0 c).Φ (Fin.last (Pipeline.pin (pcfgs (F := F)) adm 0).N) = over c from dat0_Φ_eq m c _ N_0,
    show (Pipeline.scopedRest (cfgs 0).spec c : sProp 𝕄) = _ from scopedRest0_eq c,
    show (StableHlo.held (c.tc : Thread nD τ) ∅ (V1 m (outs m) c) : sProp 𝕄) = BI.emp from BI.bigSep_empty]
  unfold over aside others commPts closed
  iintro ⟨⟨Hb, Hi⟩, Hf, Ho, Hp⟩
  isplitl [Hf Ho]
  · isplitl [Hf]; · iexact Hf
    iexact Ho
  isplitl [Hp]; · iexact Hp
  isplitr; · iempintro
  isplitl [Hi]
  · iapply (own_idle (F := F) c).2 $$ Hi
  iexact Hb

/-- The staging semaphores sit at the lowest level. -/
theorem stage_low0 : ∀ (w : Fin (cfgs 0).W) (s : Fin ((cfgs 0).win w).nbuf), ¬(6 ≤ (((cfgs 0).win w).sem s).val ∧ (((cfgs 0).win w).sem s).val < 9) := by
  decide
theorem stage_low1 : ∀ (w : Fin (cfgs 1).W) (s : Fin ((cfgs 1).win w).nbuf), ¬(6 ≤ (((cfgs 1).win w).sem s).val ∧ (((cfgs 1).win w).sem s).val < 9) := by
  decide

theorem cut0 : Pipeline.LevelCutOwed (pcfgs (F := F)) adm (pdats m) () L lv 0 (fun _ => 0) where
  hι c w s := by rw [L_tc]; exact Finset.mem_singleton_self _
  hιb c w s := Nat.le_of_eq (if_neg (stage_low0 w s))
  hD c t g i h := by
    rw [show (pdats (F := F) m 0 c).owed t = if t.val < 8 then O₀ c else 0 from rfl] at h
    split at h
    · exact O₀_pos h
    · exact absurd h (Nat.lt_irrefl 0)

theorem cut1 : Pipeline.LevelCut (pcfgs (F := F)) adm () L lv 1 (fun _ : Dev nD => (0 : CellTallies nD τ sig Unit)) (fun _ => 0) where
  hι c w s := by rw [L_tc]; exact Finset.mem_singleton_self _
  hιb c w s := Nat.le_of_eq (if_neg (stage_low1 w s))
  hD c g i h := absurd h (Nat.lt_irrefl 0)

theorem rest0 (b : DevRef τ sig) (hb : b ∈ (bufs \ Pipeline.arrRefs (τ := τ) (cfgs 0).spec) \ ∅) : V1 m (outs m) c b = V0 m c b := by
  refine Function.update_of_ne ?_ _ _
  rintro rfl
  refine (Finset.mem_sdiff.mp (Finset.mem_sdiff.mp hb).1).2 ?_
  exact Finset.mem_map.mpr ⟨_, Finset.mem_image.mpr ⟨(1 : Fin 2), Finset.mem_univ _, rfl⟩, rfl⟩

theorem exit0 (w : Fin 2) : (pdats m 0 c).arrAt w (cfgs 0).N = V1 m (outs m) c (Proc.devRef .tc (Pipeline.arrRef (cfgs 0).spec w)) := by
  match w with
  | 0 => exact ((dat0 m c).arrAt_in 0 rfl _).trans (V1_of m (outs m) c main_arg0 (by decide)).symm
  | 1 =>
    refine (final0 m c).trans ?_
    show _ = Function.update (V0 m c) (Proc.devRef .tc main_v1) (outs m 1 main_v1 c) (Proc.devRef .tc main_v1)
    rw [Function.update_self, outs_v1]

set_option backward.isDefEq.respectTransparency.types false in
/-- The first region. -/
def seg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (bufs \ Pipeline.arrRefs (τ := τ) (cfgs 0).spec) (Finset.empty_subset _) launch0.toP rfl (fun c => (body_obligation0 m c).loose)
    (fun _ => 0) O₀ (fun c => (dat0_owed_lt m c 0 (by decide)).trans (zero_add _).symm) (fun c => dat0_owed_eq m c _ N_0) (fun _ => rfl)
    (fun c w => by match w with | 0 => rfl | 1 => rfl)
    (V0 m) (V1 m (outs m)) (rest0 m)
    (ghost m) (fun c => semVal (barCell c) 0) (fun c => iprop(opened m c ∗ levAts L lv)) (fun c => semVal (barCell c) 0)
    (enter m) (hin0 m) (hout0 m)
    (fun c => by iintro H; imodintro; iexact H)
    (fun _ => 0) (cut0 m) (fun _ => iprop(emp))
    (fun c w => by match w with | 0 => rfl | 1 => rfl) (exit0 m)

/-! ## The second region -/

set_option backward.isDefEq.respectTransparency.types false in
/-- The second region. -/
def seg2 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) bufs reg reg launch1.toP rfl
    (fun c => (body_obligation1 m c).loose) (fun _ _ => rfl) (fun _ => rfl)
    (fun c w => by match w with | 0 => rfl | 1 => rfl | 2 => rfl | 3 => rfl)
    (fun c => BI.Entails.refl _) (fun c => BI.Entails.refl _) (fun _ => 0) cut1 (fun c => semVal (barCell c) 0) (mid m)
    (fun c w => by match w with | 0 => rfl | 1 => rfl | 2 => rfl | 3 => rfl)

/-- What the second region leaves: the contents before it, with the result in. -/
abbrev fin : Valuation τ sig (Elt F) := Pipeline.afterRegion (dat1 m c) (mid m c)

theorem fin_v4 : fin m c main_v4 = normed m c :=
  (Pipeline.afterRegion_arr (dat1 m c) (mid m c) winFacts1.arr_inj 3).trans (final1 m c)

/-- An argument is where it was launched. -/
theorem mid_of (r : Ref sig .tc) (h1 : r ∉ ([main_v1] : List (Ref sig .tc))) (h2 : r ∉ hostOps1_W) : mid m c r = m ((c : Thread nD τ).loc r) := by
  rw [← V2_outs]
  exact (V2_of m (outs m) c r h2).trans (V1_of m (outs m) c r h1)

theorem fin_of (r : Ref sig .tc) (h1 : r ∉ ([main_v1] : List (Ref sig .tc))) (h2 : r ∉ hostOps1_W)
    (h : ∀ w, Pipeline.arrRef cfg1.spec w = r → (cfg1.win w).isOut = false) : fin m c r = m ((c : Thread nD τ).loc r) :=
  (Pipeline.afterRegion_keeps (dat1 m c) (mid m c) winFacts1.arr_inj
    (fun w => by match w with | 0 => rfl | 1 => rfl | 2 => rfl | 3 => rfl) r h).trans (mid_of m c r h1 h2)

end Cert.KernelIdeal.Norm

end
-- ==== Proof.KernelIdeal.Run.lean ====
/-
  The launch and the run: every cell's invariant is made at the start, what the devices exchange with is dealt out, and the program
  ends with its result in place, its arguments unchanged and every counter at zero.
-/
module

public import proofs.«01_k».proof.Proof.KernelIdeal.Segs
public import Idealize.ShloMosaic.Smoke.Basic

@[expose] public section

set_option maxRecDepth 16384

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The cells and the duties -/

theorem osem_inj : Function.Injective osem := by decide
theorem osem_ne_bar : ∀ k, osem k ≠ .reg barS := by decide

def barEmb : Dev nD ↪ GSem nD τ sig := ⟨fun c => barCell c, fun _ _ h => congrArg (fun g : GSem nD τ sig => g.1.1) h⟩
def ownEmb : Dev nD × (Fin 3 ⊕ Fin 3) ↪ GSem nD τ sig :=
  ⟨fun x => ((x.1 : Thread nD τ), osem x.2), fun _ _ h =>
    Prod.ext (congrArg (fun g : GSem nD τ sig => g.1.1) h) (osem_inj (congrArg Prod.snd h))⟩

/-- The barrier cells, whose counters exist from the start; -/
abbrev barCells : Finset (GSem nD τ sig) := Finset.univ.map barEmb
/-- the send and receive cells, which exist only in the first region. -/
abbrev ownCells : Finset (GSem nD τ sig) := Finset.univ.map ownEmb

/-- The duties of a device's own cells: of its barrier's three, of its receive cells, of its send cells. -/
abbrev dutyAt : Fin 3 × Fin 3 → SemLoc sig × Fin 3
  | (0, j) => (.reg barS, j)
  | (1, j) => (.dma (recvS j), 0)
  | (2, j) => (.dma (sendS j), 0)
theorem dutyAt_inj : Function.Injective dutyAt := by decide

def allDuties : Finset (GSem nD τ sig × ℕ × Fin 3) :=
  Finset.univ.map ⟨fun x : Dev nD × (Fin 3 × Fin 3) => (((x.1 : Thread nD τ), (dutyAt x.2).1), 0, (dutyAt x.2).2), fun _ _ h =>
    Prod.ext (congrArg (fun t : GSem nD τ sig × ℕ × Fin 3 => t.1.1.1) h)
      (dutyAt_inj (Prod.ext (congrArg (fun t : GSem nD τ sig × ℕ × Fin 3 => t.1.2) h) (congrArg (fun t : GSem nD τ sig × ℕ × Fin 3 => t.2.2) h)))⟩

theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

abbrev cells : Finset (GSem nD τ sig) := barCells ∪ ownCells

theorem bar_mem : barCell c ∈ cells := Finset.mem_union_left _ (Finset.mem_map_of_mem barEmb (Finset.mem_univ c))
theorem send_mem (j : Fin 3) : sendCell c j ∈ cells :=
  Finset.mem_union_right _ (Finset.mem_map_of_mem ownEmb (Finset.mem_univ (c, Sum.inl j)))
theorem recv_mem (j : Fin 3) : recvCell c j ∈ cells :=
  Finset.mem_union_right _ (Finset.mem_map_of_mem ownEmb (Finset.mem_univ (c, Sum.inr j)))

/-- The ghost state at launch: the pipelines' and the exchange's. -/
def u₀ : UU :=
  (initOf (Pipeline.cells (Pipeline.pin (pcfgs (F := F)) adm) cellOf_inj) (Pipeline.launchToks (Pipeline.pin (pcfgs (F := F)) adm) cellOf_inj),
    launchOf barCells ownCells allDuties)

/-- The exchange's ghost state, whole, kept on the first device until it is dealt out. -/
def G (c : Dev nD) : sProp 𝕄 := if c = 0 then BI.own (ER (launchOf barCells ownCells allDuties)) else iprop(emp)

omit [FloatOps F] in
theorem G_whole : bigSep Finset.univ (G (F := F)) = BI.own (ER (launchOf barCells ownCells allDuties)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The credit -/

/-- Only `c`'s peer behind it, by `j`, owes the `j`-th signal to `c`'s barrier. -/
theorem dueBar_at (d : Dev nD) (j : Fin 3) : dueBar d j (barCell c) () = if d = signaller j c then 1 else 0 := by
  unfold dueBar
  rw [tallyAt_apply]
  refine if_congr ⟨fun h => ?_, fun h => ⟨?_, rfl⟩⟩ rfl rfl
  · have e : c = peer j d := congrArg (fun g : GSem nD τ sig => g.1.1) h.1
    rw [e]; exact (peer_rev j d).symm
  · rw [h, peer_rev']

theorem dueBar_recv (d : Dev nD) (j j' : Fin 3) : dueBar d j' (recvCell c j) () = 0 := by
  unfold dueBar
  rw [tallyAt_apply, if_neg]
  exact fun h => osem_ne_bar (.inr j) (congrArg Prod.snd h.1)

theorem dueRecv_bar (d : Dev nD) (j' : Fin 3) : dueRecv d j' (barCell c) () = 0 := by
  unfold dueRecv
  rw [tallyAt_apply, if_neg]
  exact fun h => osem_ne_bar (.inr j'.rev) (congrArg Prod.snd h.1).symm

/-- Only `c`'s `j`-th peer owes a copy to `c`'s `j`-th receive cell, and only its copy `j.rev`. -/
theorem dueRecv_at (d : Dev nD) (j j' : Fin 3) : dueRecv d j' (recvCell c j) () = if d = peer j c then (if j' = j.rev then N else 0) else 0 := by
  unfold dueRecv
  rw [tallyAt_apply, ← ite_and]
  refine if_congr ⟨fun h => ?_, fun h => ⟨?_, rfl⟩⟩ rfl rfl
  · have e : c = peer j' d := congrArg (fun g : GSem nD τ sig => g.1.1) h.1
    have e' : j = j'.rev := Sum.inr.inj (osem_inj (congrArg Prod.snd h.1 : osem (.inr j) = osem (.inr j'.rev)))
    rw [e, e']; exact ⟨(peer_rev j' d).symm, (Fin.rev_rev j').symm⟩
  · rw [h.1, h.2, peer_rev, Fin.rev_rev]

theorem owed_bar (d : Dev nD) : O₀ d (barCell c) ()
    = ((if d = signaller 2 c then 1 else 0) + (if d = signaller 1 c then 1 else 0)) + (if d = signaller 0 c then 1 else 0) := by
  unfold O₀ dueCopies
  simp only [Pi.add_apply, Finsupp.add_apply, dueBar_at, dueRecv_bar, Nat.zero_add]

theorem owed_recv (d : Dev nD) (j : Fin 3) : O₀ d (recvCell c j) () = if d = peer j c then N else 0 := by
  unfold O₀ dueCopies
  simp only [Pi.add_apply, Finsupp.add_apply, dueBar_recv, dueRecv_at, Nat.add_zero]
  split
  · match j with
    | 0 => rfl
    | 1 => rfl
    | 2 => rfl
  · rfl

theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_add_distrib]
  simp only [Finset.sum_ite_eq', Finset.mem_univ, if_true]

theorem launch_recv (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv c d j]
  simp only [Finset.sum_ite_eq', Finset.mem_univ, if_true]

/-- The credit a device waits with: three signals, and a copy on each receive cell. -/
def creds : sProp 𝕄 := iprop(cred (tallyAt (barCell c) () 3) ∗ bigSep Finset.univ fun j => cred (tallyAt (recvCell c j) () N))

def recvEmb : Fin 3 ↪ SemLoc sig := ⟨fun j => .dma (recvS j), fun _ _ h => Sum.inr.inj (osem_inj (h : osem (.inr _) = osem (.inr _)))⟩

omit [FloatOps F] in
theorem creds_intro : (Pipeline.launchCred O₀ c : sProp 𝕄) ⊢ creds c := by
  unfold Pipeline.launchCred creds
  rw [bigSep_univ_at _ (SemLoc.reg barS), launch_bar]
  refine sep_mono_right ((bigSep_subset (t := Finset.univ.map recvEmb) fun s hs => ?_).trans ?_)
  · obtain ⟨j, -, rfl⟩ := Finset.mem_map.mp hs
    exact Finset.mem_erase.mpr ⟨osem_ne_bar (.inr j), Finset.mem_univ _⟩
  · rw [bigSep_map]
    exact bigSep_mono fun j _ => by
      rw [← launch_recv c j]; exact BI.Entails.refl _

/-! ## Dealing out -/

/-- What every device may consult: all the invariants, under one map of names, and that every barrier is in its first round. -/
def records (κ : GSem nD τ sig → ℕ) : sProp 𝕄 :=
  iprop((bigSep cells fun g => cellInv ER (rd m) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ cells) : (records m κ : sProp 𝕄) ⊢ cellInv ER (rd m) (κ g) g := by
  unfold records
  iintro ⟨#H, -⟩
  iapply (show (bigSep cells fun g => (cellInv ER (rd m) (κ g) g : sProp 𝕄)) ⊢ cellInv ER (rd m) (κ g) g from bigSep_elim hg) $$ H

theorem reached_at (κ : GSem nD τ sig → ℕ) : (records m κ : sProp 𝕄) ⊢ reached ER (barCell c) 0 := by
  unfold records
  iintro ⟨-, #H⟩
  iapply (show (bigSep barCells fun g => (reached ER g 0 : sProp 𝕄)) ⊢ reached ER (barCell c) 0 from
    bigSep_elim (Finset.mem_map_of_mem barEmb (Finset.mem_univ c))) $$ H

theorem pers_intro (κ : GSem nD τ sig → ℕ) (j : Fin 3) : (records m κ : sProp 𝕄) ⊢ pers m κ c j := by
  unfold pers
  iintro #H
  isplitr; · iapply (inv_at m κ (send_mem c j)) $$ H
  isplitr; · iapply (inv_at m κ (recv_mem c j)) $$ H
  isplitr; · iapply (inv_at m κ (bar_mem (peer j c))) $$ H
  isplitr; · iapply (inv_at m κ (recv_mem (peer j c) j.rev)) $$ H
  iapply (reached_at m (peer j c) κ) $$ H

/-- The tokens of the duties a device pays towards its `j`-th peer. -/
def dues (j : Fin 3) : sProp 𝕄 :=
  iprop(dutyTok ER (barCell (peer j c)) 0 j ∗ dutyTok ER (recvCell (peer j c) j.rev) 0 0 ∗ dutyTok ER (sendCell c j) 0 0)

/-- What of the exchange's ghost state goes to one device. -/
def linear : sProp 𝕄 :=
  iprop(atPos ER (barCell c) 0 ∅ 0 ∗ bigSep Finset.univ (asleep (F := F) c) ∗ bigSep Finset.univ (dues (F := F) c))

theorem ghost_intro (κ : GSem nD τ sig → ℕ) : iprop(records m κ ∗ linear c ∗ creds c) ⊢ (ghost m c : sProp 𝕄) := by
  unfold linear creds ghost barHeld
  iintro ⟨#HR, ⟨Hat, Hs, Hd⟩, H3, HN⟩
  iexists κ
  isplitl [Hat H3]
  · isplitr; · iapply (inv_at m κ (bar_mem c)) $$ HR
    isplitl [Hat] <;> iassumption
  iapply (bigSep_with_persistent (R := records m κ)
    (Φ := fun j => iprop(asleep c j ∗ dues c j ∗ cred (tallyAt (recvCell c j) () N))) fun j _ => (by
      unfold toks dues
      iintro ⟨#HR, Hs, ⟨H1, H2, H3⟩, HN⟩
      isplitr; · iapply (pers_intro m c κ j) $$ HR
      isplitr [Hs]
      · isplitl [H1]; · iexact H1
        isplitl [H2]; · iexact H2
        isplitl [H3] <;> iassumption
      iexact Hs))
  isplitr; · iexact HR
  iapply Idealize.ShloMosaic.Smoke.bigSep_pair
  isplitl [Hs]; · iexact Hs
  iapply Idealize.ShloMosaic.Smoke.bigSep_pair
  isplitl [Hd] <;> iassumption

/-- The devices paired with the sends, each device shifted around the ring by its send. -/
def turn : Dev nD × Fin 3 ≃ Dev nD × Fin 3 :=
  ⟨fun x => (peer x.2 x.1, x.2), fun x => (peer x.2.rev x.1, x.2), fun x => Prod.ext (peer_rev x.2 x.1) rfl, fun x => Prod.ext (peer_rev' x.2 x.1) rfl⟩

omit [FloatOps F] in
/-- Two indices, the first shifted around the ring by the second. -/
theorem around (Φ : Dev nD → Fin 3 → sProp 𝕄) :
    (bigSep Finset.univ fun c : Dev nD => bigSep Finset.univ fun j => Φ c j)
      = bigSep Finset.univ fun c : Dev nD => bigSep Finset.univ fun j => Φ (peer j c) j := by
  rw [← bigSep_univ_prod fun x : Dev nD × Fin 3 => Φ x.1 x.2, ← bigSep_univ_prod fun x : Dev nD × Fin 3 => Φ (peer x.2 x.1) x.2]
  exact bigSep_univ_equiv turn fun x => Φ x.1 x.2

omit [FloatOps F] in
/-- Every duty's token, handed to the device that pays it. -/
theorem deal : bigSep allDuties (fun x => (dutyTok ER x.1 x.2.1 x.2.2 : sProp 𝕄))
    = bigSep Finset.univ fun c : Dev nD => bigSep Finset.univ (dues (F := F) c) := by
  unfold allDuties dues
  rw [bigSep_map, bigSep_univ_prod]
  refine (bigSep_congr fun c _ => (bigSep_univ_prod _).trans (three _)).trans ?_
  rw [bigSep_sep', bigSep_sep']
  have hr (c : Dev nD) : (bigSep Finset.univ fun j : Fin 3 => (dutyTok ER (recvCell c j) 0 0 : sProp 𝕄))
      = bigSep Finset.univ fun j : Fin 3 => dutyTok ER (recvCell c j.rev) 0 0 := bigSep_univ_equiv Fin.revPerm _
  have h := bigSep_congr (s := (Finset.univ : Finset (Dev nD))) fun c _ => hr c
  refine Eq.trans (b := iprop((bigSep Finset.univ fun c : Dev nD => bigSep Finset.univ fun j => (dutyTok ER (barCell c) 0 j : sProp 𝕄))
    ∗ (bigSep Finset.univ fun c : Dev nD => bigSep Finset.univ fun j : Fin 3 => (dutyTok ER (recvCell c j) 0 0 : sProp 𝕄))
    ∗ (bigSep Finset.univ fun c : Dev nD => bigSep Finset.univ fun j : Fin 3 => (dutyTok ER (sendCell c j) 0 0 : sProp 𝕄)))) rfl ?_
  rw [h, around (fun c j => dutyTok ER (barCell c) 0 j), around (fun c j => dutyTok ER (recvCell c j.rev) 0 0), ← bigSep_sep', ← bigSep_sep']
  refine bigSep_congr fun c _ => ?_
  rw [← bigSep_sep', ← bigSep_sep']

/-! ## The program's states between its items -/

/-- What rides beside the buffers at the start, -/
def E₀ : sProp 𝕄 := iprop(ghost m c ∗ reg c ∗ ∃ W, owes (c : Thread nD τ) (O₀ c) W)
/-- and once the exchange is over. -/
def E₁ : sProp 𝕄 := iprop((∃ W, owes (c : Thread nD τ) (0 : CellTallies nD τ sig Unit) W) ∗ reg c ∗ semVal (barCell c) 0)

abbrev T₀ : sProp 𝕄 := iprop(StableHlo.held (c : Thread nD τ) bufs (V0 m c) ∗ E₀ m c)
abbrev Tₙ : sProp 𝕄 := iprop(StableHlo.held (c : Thread nD τ) bufs (fin m c) ∗ semVal (barCell c) 0)

/-- A buffer that is no region's own is among them. -/
theorem mem_bufs (r : Ref sig .tc) (h : ¬(Proc.devRef .tc r : DevRef τ sig).isScoped = true) : (Proc.devRef .tc r : DevRef τ sig) ∈ bufs :=
  Finset.mem_filter.mpr ⟨StableHlo.devRef_mem_tcRefs r, h⟩

theorem arrs0_sub : Pipeline.arrRefs (τ := τ) (cfgs 0).spec ⊆ bufs := by
  rintro b hb
  obtain ⟨r, hr, rfl⟩ := Finset.mem_map.mp hb
  obtain ⟨w, -, rfl⟩ := Finset.mem_image.mp hr
  match w with
  | 0 => exact mem_bufs main_arg0 (by decide)
  | 1 => exact mem_bufs main_v1 (by decide)
theorem arrs1_sub : Pipeline.arrRefs (τ := τ) (pcfgs (F := F) 1).spec ⊆ bufs := by
  rintro b hb
  obtain ⟨r, hr, rfl⟩ := Finset.mem_map.mp hb
  obtain ⟨w, -, rfl⟩ := Finset.mem_image.mp hr
  match w with
  | 0 => exact mem_bufs main_arg0 (by decide)
  | 1 => exact mem_bufs main_v2 (by decide)
  | 2 => exact mem_bufs main_v3 (by decide)
  | 3 => exact mem_bufs main_v4 (by decide)

theorem seg0_pre : T₀ m c ⊢ (seg0 m).pre c := by
  show _ ⊢ iprop(StableHlo.held (c.tc : Thread nD τ) (Pipeline.arrRefs (τ := τ) (cfgs 0).spec) (V0 m c) ∗ (∃ r, prngReg c r)
    ∗ (StableHlo.held (c.tc : Thread nD τ) (bufs \ Pipeline.arrRefs (τ := τ) (cfgs 0).spec) (V0 m c) ∗ emp) ∗ ghost m c
    ∗ ∃ Wd, owes (c : Thread nD τ) (0 + O₀ c) Wd)
  unfold T₀ E₀
  rw [zero_add, StableHlo.held_sub_split (c.tc : Thread nD τ) arrs0_sub (V0 m c)]
  iintro ⟨⟨Ha, Hu⟩, Hg, Hp, HO⟩
  isplitl [Ha]; · iexact Ha
  isplitl [Hp]; · iexact Hp
  isplitl [Hu]
  · isplitl [Hu]; · iexact Hu
    iempintro
  isplitl [Hg]; · iexact Hg
  iexact HO

theorem seg0_post : (seg0 m).post c ⊢ iprop(StableHlo.held (c : Thread nD τ) bufs (V1 m (outs m) c) ∗ E₁ c) := by
  show iprop(StableHlo.held (c.tc : Thread nD τ) (Pipeline.arrRefs (τ := τ) (cfgs 0).spec) (V1 m (outs m) c) ∗ (∃ r, prngReg c r)
    ∗ (StableHlo.held (c.tc : Thread nD τ) (bufs \ Pipeline.arrRefs (τ := τ) (cfgs 0).spec) (V1 m (outs m) c) ∗ emp) ∗ semVal (barCell c) 0
    ∗ ∃ Wd, owes (c : Thread nD τ) (0 : CellTallies nD τ sig Unit) Wd) ⊢ _
  unfold E₁
  rw [StableHlo.held_sub_split (c.tc : Thread nD τ) arrs0_sub (V1 m (outs m) c)]
  iintro ⟨Ha, Hp, ⟨Hu, -⟩, Hb, HO⟩
  isplitl [Ha Hu]
  · isplitl [Ha] <;> iassumption
  isplitl [HO]; · iexact HO
  isplitl [Hp] <;> iassumption

theorem seg2_pre : iprop(StableHlo.held (c : Thread nD τ) bufs (V2 m (outs m) c) ∗ E₁ c) ⊢ (seg2 m).pre c := by
  rw [V2_outs]
  show _ ⊢ iprop(StableHlo.held (c.tc : Thread nD τ) (Pipeline.arrRefs (τ := τ) (pcfgs (F := F) 1).spec) (mid m c) ∗ (∃ r, prngReg c r)
    ∗ (StableHlo.held (c.tc : Thread nD τ) (bufs \ Pipeline.arrRefs (τ := τ) (pcfgs (F := F) 1).spec) (mid m c) ∗ semVal (barCell c) 0)
    ∗ ∃ Wd, owes (c : Thread nD τ) (0 : CellTallies nD τ sig Unit) Wd)
  unfold E₁
  rw [StableHlo.held_sub_split (c.tc : Thread nD τ) (arrs1_sub (F := F)) (mid m c)]
  iintro ⟨⟨Ha, Hu⟩, HO, Hp, Hb⟩
  isplitl [Ha]; · iexact Ha
  isplitl [Hp]; · iexact Hp
  isplitl [Hu Hb]
  · isplitl [Hu] <;> iassumption
  iexact HO

theorem seg2_post : (seg2 m).post c
    ⊢ iprop(Tₙ m c ∗ ∃ W, owes (c : Thread nD τ) (0 : CellTallies nD τ sig Unit) W) := by
  unfold seg2
  refine (Pipeline.RegionSeg.ofHeldIn_post arrs1_sub c).trans ?_
  iintro ⟨Hh, HO, -, Hb⟩
  isplitr [HO]
  · isplitl [Hh]; · iexact Hh
    iexact Hb
  iexact HO

/-! ## The launch -/

/-- What a device holds at launch beside the exchange's ghost state. -/
def bundle : sProp 𝕄 :=
  iprop(StableHlo.held (c : Thread nD τ) bufs (V0 m c) ∗ creds c ∗ owes (c : Thread nD τ) (O₀ c) ∅ ∗ reg c)

theorem T₀_intro (κ : GSem nD τ sig → ℕ) : iprop(records m κ ∗ (linear c ∗ bundle m c)) ⊢ T₀ m c := by
  unfold bundle T₀ E₀
  iintro ⟨#HR, Hl, Hh, Hc, HO, Hp⟩
  isplitl [Hh]; · iexact Hh
  isplitl [Hl Hc]
  · iapply (ghost_intro m c κ)
    isplitr; · iexact HR
    isplitl [Hl] <;> iassumption
  isplitl [Hp]; · iexact Hp
  iexists ∅; iexact HO

theorem unscoped_eq : ∀ s : SemLoc sig, s.isScoped .tc = false → s = .reg barS := by decide

omit [FloatOps F] in
theorem unscopedSems_eq : (unscopedSems0 c : sProp 𝕄) = semVal (barCell c) 0 := by
  unfold unscopedSems0
  rw [show (Finset.univ.filter fun s : SemLoc sig => ¬ s.isScoped .tc) = {SemLoc.reg barS} from by decide, BI.bigSep_singleton]

/-- What one device is launched with, sorted. -/
theorem sorted : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ semVal (barCell c) 0 ∗ G c) : sProp 𝕄) := by
  rw [show unscopedBufs c (fun b => m ((c : Thread nD τ).loc b)) = StableHlo.held (c : Thread nD τ) bufs (V0 m c) from
      Pipeline.unscopedBufs_held (Ix := Unit) (Name := ℕ) (U := UU) (Lvl := ℕ) c (V0 m c), unscopedSems_eq]
  unfold bundle
  iintro ⟨Hh, Hs, HO, Hc, Hp, HG⟩
  ihave Hc' := (creds_intro (F := F) c) $$ Hc
  isplitl [Hh Hc' HO Hp]
  · isplitl [Hh]; · iexact Hh
    isplitl [Hc']; · iexact Hc'
    isplitl [HO]; · iexact HO
    iexists (ρ c); iexact Hp
  isplitl [Hs] <;> iassumption

theorem sorted_all : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(bundle m c ∗ semVal (barCell c) 0 ∗ G c) : sProp 𝕄) :=
  bigSep_mono fun c _ => sorted m ρ c

/-- From what all devices are launched with, what each starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hopen : bigSep ownCells (fun g => (openTok ER g : sProp 𝕄)) = bigSep Finset.univ (fun c : Dev nD => bigSep Finset.univ (asleep (F := F) c)) := by
    rw [bigSep_map, bigSep_univ_prod]
    refine bigSep_congr fun c _ => (BI.bigSep_univ_sum _).trans ?_
    unfold asleep
    exact (bigSep_sep' _ _ _).symm
  iintro ⟨H, -⟩
  ihave H' := (sorted_all m ρ) $$ H
  ihave H2 := Idealize.ShloMosaic.Smoke.bigSep_unpair $$ H'; icases H2 with ⟨HB, H3⟩
  ihave H4 := Idealize.ShloMosaic.Smoke.bigSep_unpair $$ H3; icases H4 with ⟨Hv, HG⟩
  ihave Hu := (Entails.of_eq (G_whole (F := F))) $$ HG
  imod (Rounds.fund_launch ER (rd m) disjoint_cells (fun g _ h => h) allDuties) $$ [Hv Hu] with ⟨%κ, -, #Hinv, #Hr, Hat, Hopen, Htok⟩
  · isplitl [Hv]
    · iapply (Entails.of_eq hv) $$ Hv
    · iexact Hu
  imodintro
  iapply (bigSep_with_persistent (R := records m κ) (Φ := fun c => iprop(linear c ∗ bundle m c)) fun c _ => T₀_intro m c κ)
  isplitr
  · unfold records
    isplitr; · iexact Hinv
    iexact Hr
  iapply Idealize.ShloMosaic.Smoke.bigSep_pair
  isplitr [HB]
  · unfold linear
    iapply Idealize.ShloMosaic.Smoke.bigSep_pair; isplitl [Hat]; · iapply (Entails.of_eq hat) $$ Hat
    iapply Idealize.ShloMosaic.Smoke.bigSep_pair; isplitl [Hopen]; · iapply (Entails.of_eq hopen) $$ Hopen
    iapply (Entails.of_eq (deal (F := F))) $$ Htok
  · iexact HB

/-! ## The run -/

abbrev items (c : Dev nD) : List (Pipeline.Seg (pcfgs (F := F)) adm (pdats m) () defs₀ 𝒱₀ L lv) :=
  segs m (outs m) 𝒱₀ L lv (fun _ => E₁) () (pdats m) (seg0 m) (seg2 m) c

set_option backward.isDefEq.respectTransparency.types false in
/-- From any memory with zero counters the program ends on every device, with `normed` for its result, its arguments as launched,
    and every counter of the machine at zero. -/
theorem run : θ_run defs (onTc (τ := τ) (main (F := F))) ⟨m, fun _ => 0, ρ⟩
    (fun r => (∀ c : Dev nD, r.2.mem ((c.tc : Thread nD τ).loc main_v4) = normed m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Pipeline.Seg.run_eq_chain,
        show (items m c).map Pipeline.Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_whole]; iexact HX)
    (T₀ := T₀ m) (Tₙ := Tₙ m)
    (hch := fun c => ⟨seg0_pre m c, seg0_post m c, seg2_pre m c, seg2_post m c⟩)
    (hinit := init m ρ)
    (QY := fun c s => (s.mem ((c.tc : Thread nD τ).loc main_v4) = normed m c
        ∧ s.mem ((c.tc : Thread nD τ).loc main_arg0) = m ((c.tc : Thread nD τ).loc main_arg0)
        ∧ s.mem ((c.tc : Thread nD τ).loc main_arg1) = m ((c.tc : Thread nD τ).loc main_arg1)) ∧ s.sem (barCell c) = 0)
    (hfin := fun c s' => by
      dsimp only [Tₙ]
      unfold StableHlo.held
      iintro ⟨⟨Hh, Hb⟩, HSI⟩
      icombine HSI Hb gives %hb
      ihave Hr := (pointsTo_read_all bufs (fun b => ((c : Thread nD τ).1, b)) (fin m c) s') $$ [Hh HSI]
      · isplitl [Hh] <;> iassumption
      icases Hr with ⟨%h, HSI⟩
      imodintro
      isplitr
      · ipureintro
        refine ⟨⟨?_, ?_, ?_⟩, by simpa using hb⟩
        · exact (h (Proc.devRef .tc main_v4) (mem_bufs main_v4 (by decide))).trans (fin_v4 m c)
        · exact (h (Proc.devRef .tc main_arg0) (mem_bufs main_arg0 (by decide))).trans
            (fin_of m c main_arg0 (by decide) (by decide) (by decide))
        · exact (h (Proc.devRef .tc main_arg1) (mem_bufs main_arg1 (by decide))).trans
            (fin_of m c main_arg1 (by decide) (by decide) (by decide))
      iexact HSI)
    (hQ := fun s h hs => ⟨fun c => (h c).1, sem_eq_zero hs fun c sm hsm => by
        obtain rfl := unscoped_eq sm hsm
        exact (h c).2⟩)

end Cert.KernelIdeal.Norm

end
-- ==== Proof.Values.Blocks.lean ====
/-
  What the kernel's arithmetic computes over the extended reals, one block at a time: the two masks pick each row's sum of squares
  into its place of the 64 × 128 layout, the four slots are added, and the mean's reciprocal root is taken.
-/
module

public import proofs.«01_k».proof.Proof.KernelIdeal.Contents
public import Idealize.ShloMosaic.Lib.Pointwise
public import Idealize.ShloMosaic.Lib.IdealHost
public import Idealize.ShloMosaic.Lib.WordCmp

@[expose] public section

set_option maxRecDepth 16384

noncomputable section

namespace Cert.KernelIdeal.Norm

open Cert.KernelIdeal Cert.KernelIdeal.Gen
open Idealize.ShloMosaic

/-! ## The masks' words -/

/-- The lane of row `k` as the kernel's words compute it: the remainder by 128, made non-negative. -/
def laneWord (k : ℕ) : BitVec 32 :=
  let m : BitVec 32 := Scalar.select (Scalar.cmpi .eq 128#32 0#32) 1#32 128#32
  let q : BitVec 32 := IntOp.remsi .vector (BitVec.ofNat 32 k) m
  Scalar.select (IntOp.andi (IntOp.xori (IntOp.cmpi .slt q 0#32) (Scalar.cmpi .slt m 0#32)) (IntOp.cmpi .ne q 0#32))
    (IntOp.addi q m) q

/-- The group of 128 rows that row `k` is in as the kernel's words compute it: the quotient by 128, rounded down. -/
def groupWord (k : ℕ) : BitVec 32 :=
  let x : BitVec 32 := BitVec.ofNat 32 k
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32) (IntOp.divsi .vector x 128#32)

theorem laneWord_eq : ∀ k : Fin 1024, laneWord k.val = BitVec.ofNat 32 (k.val % 128) := by decide +kernel
theorem groupWord_eq : ∀ k : Fin 1024, groupWord k.val = BitVec.ofNat 32 (k.val / 128) := by decide +kernel

/-- A select on the equality of two small words is a choice on the equality of the numbers. -/
theorem select_ofNat {α : Type} (a b : ℕ) (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [h, Scalar.select]

/-! ## The payloads -/

/-- The sum of squares of row `k` of a block. -/
def rowSq (v : Vec Ideal S1024x2048 .f32) (k : Fin 1024) : EReal := ∑ j : Fin 2048, v (ix2 k j) * v (ix2 k j)

/-- Each row's sum of squares stands in the lane that is the row's number modulo 128; zero stands in the other lanes. -/
theorem lanes_apply (v : Vec Ideal S1024x2048 .f32) (k : Fin 1024) (l : Fin 128) :
    k0_pay4 v (ix2 k l) = if k.val % 128 = l.val then rowSq v k else 0 := by
  pointwise [k0_pay4]
  show Scalar.select (IntOp.cmpi .eq (laneWord k.val) (BitVec.ofNat 32 l.val)) (rowSq v k) 0 = _
  rw [laneWord_eq, select_ofNat _ _ (by omega) (by omega)]

/-- Row `r`, lane `l` of a block's sums is the sum of squares of the block's row `128 r + l`. -/
theorem part_apply (v : Vec Ideal S1024x2048 .f32) (r : Fin 8) (l : Fin 128) :
    part v (ix3 (0 : Fin 1) r l) = rowSq v ⟨128 * r.val + l.val, by omega⟩ := by
  unfold part
  pointwise [k0_pay1, k0_pay5, k0_pay6]
  show ∑ k : Fin 1024, Scalar.select (IntOp.cmpi .eq (groupWord k.val) (BitVec.ofNat 32 r.val)) (k0_pay4 v (ix2 k l)) (0 : EReal) = _
  have term (k : Fin 1024) : Scalar.select (IntOp.cmpi .eq (groupWord k.val) (BitVec.ofNat 32 r.val)) (k0_pay4 v (ix2 k l)) (0 : EReal)
      = if (⟨128 * r.val + l.val, by omega⟩ : Fin 1024) = k then rowSq v k else 0 := by
    rw [groupWord_eq, select_ofNat _ _ (by omega) (by omega), lanes_apply, ← ite_and]
    exact if_congr (by rw [Fin.ext_iff]; show _ ↔ 128 * r.val + l.val = k.val; omega) rfl rfl
  rw [Finset.sum_congr rfl fun k _ => term k, Finset.sum_ite_eq, if_pos (Finset.mem_univ _)]

/-- The mean of the squares plus the small constant, of which the kernel takes the reciprocal root. -/
theorem mean_apply (a b c d : Vec Ideal S1x64x128 .f32) (r : Fin 64) (l : Fin 128) :
    k0_pay2 (k0_pay3 a b c d) (ix2 r l)
      = Ideal.rsqrt ((a (ix3 (0 : Fin 1) r l) + b (ix3 (0 : Fin 1) r l) + c (ix3 (0 : Fin 1) r l) + d (ix3 (0 : Fin 1) r l))
          * Ideal.ofBits .f32 0x39000000#32 + Ideal.ofBits .f32 0x3727C5AC#32) := by
  pointwise [k0_pay2, k0_pay3]

/-- An element of a scaled block: the element of `x`, times its row's reciprocal root, times its column's `gamma`. -/
theorem scale_apply (x : Vec Ideal S1024x2048 .f32) (v : Vec Ideal S1024x1 .f32) (g : Vec Ideal S1x2048 .f32) (r : Fin 1024)
    (j : Fin 2048) : k1_pay1 x v g (ix2 r j) = x (ix2 r j) * v (ix2 r (0 : Fin 1)) * g (ix2 (0 : Fin 1) j) := by
  pointwise [k1_pay1]

end Cert.KernelIdeal.Norm

end
-- ==== Proof.Values.Result.lean ====
/-
  The kernel's result over the extended reals, element by element: the element of `x`, times the reciprocal root of its row's mean
  square over all four devices, times its column's `gamma`.
-/
module

public import proofs.«01_k».proof.Proof.Values.Blocks
public import proofs.«01_k».proof.Proof.KernelIdeal.Segs
public import Idealize.ShloMosaic.Lib.StableHlo.ReadAt

@[expose] public section

set_option maxRecDepth 16384

noncomputable section

namespace Cert.KernelIdeal.Norm

open Cert.KernelIdeal Cert.KernelIdeal.Gen
open Idealize.ShloMosaic
open Idealize.ShloMosaic.TcCoe
open Idealize.SL.Sem

variable (m : (ℓ : Loc nD τ sig) → Buf (Elt Ideal) ℓ)

/-- Device `d`'s block of `x`, as launched. -/
abbrev xs (d : Dev nD) : Vec Ideal S8192x2048 .f32 := m ((d : Thread nD τ).loc main_arg0)
/-- Device `d`'s block of `gamma`, as launched. -/
abbrev gs (d : Dev nD) : Vec Ideal S2048 .f32 := m ((d : Thread nD τ).loc main_arg1)

/-- The sum of squares of row `R` of a device's block. -/
def sqRow (X : Vec Ideal S8192x2048 .f32) (R : Fin 8192) : EReal := ∑ j : Fin 2048, X (ix2 R j) * X (ix2 R j)

theorem index0_0 : ∀ t : Fin cfg0.N, win0_0.index t = ![t.val, 0] := by decide +kernel
theorem index1_0 : ∀ t : Fin cfg1.N, win1_0.index t = ![t.val, 0] := by decide +kernel
theorem index1_1 : ∀ t : Fin cfg1.N, win1_1.index t = ![t.val, 0] := by decide +kernel
theorem index1_2 : ∀ t : Fin cfg1.N, win1_2.index t = ![0, 0] := by decide +kernel

/-! ## The first region -/

theorem xblk_apply (t : Fin cfg0.N) (d : Dev nD) (k : Fin 1024) (j : Fin 2048) (R : Fin 8192) (hR : R.val = t.val * 1024 + k.val) :
    xblk m t d (ix2 k j) = xs m d (ix2 R j) := by
  unfold xblk
  blk_ext [index0_0]

/-- Row `r`, lane `l` of a device's sums is the sum of squares of its row `128 r + l`. -/
theorem sums_apply (d : Dev nD) (r : Fin 64) (l : Fin 128) (R : Fin 8192) (hR : R.val = 128 * r.val + l.val) :
    sums m d r l = sqRow (xs m d) R := by
  unfold sums
  rw [part_apply]
  refine Finset.sum_congr rfl fun j _ => ?_
  rw [xblk_apply m (ptOf r) d _ j R (by show R.val = r.val / 8 * 1024 + (128 * (r.val % 8) + l.val); omega)]

/-- The sum of squares of row `R` over all devices, in the order in which device `c` adds them. -/
def sqAll (c : Dev nD) (R : Fin 8192) : EReal :=
  sqRow (xs m (ahead 0 c)) R + sqRow (xs m (ahead 1 c)) R + sqRow (xs m (ahead 2 c)) R + sqRow (xs m (ahead 3 c)) R

/-- The reciprocal root of row `R`'s mean square. -/
def root (s : EReal) : EReal := Ideal.rsqrt (s * Ideal.ofBits .f32 0x39000000#32 + Ideal.ofBits .f32 0x3727C5AC#32)

theorem rms_apply (c : Dev nD) (r : Fin 64) (l : Fin 128) (R : Fin 8192) (hR : R.val = 128 * r.val + l.val) :
    rms m c (ix2 r l) = root (sqAll m c R) := by
  unfold rms
  rw [mean_apply]
  show root (sums m (ahead 0 c) r l + sums m (ahead 1 c) r l + sums m (ahead 2 c) r l + sums m (ahead 3 c) r l) = _
  simp only [sums_apply m _ r l R hR]
  rfl

/-! ## The second region -/

theorem mid_v2 (c : Dev nD) (R : Fin 8192) : (mid m c main_v2 : Vec Ideal S8192x1 .f32) (ix2 R (0 : Fin 1)) = root (sqAll m c R) := by
  rw [← rms_apply m c ⟨R.val / 128, by omega⟩ ⟨R.val % 128, by omega⟩ R (by show R.val = 128 * (R.val / 128) + R.val % 128; omega)]
  unfold mid
  after_reads_at
  rw [Function.update_self]

theorem mid_v3 (c : Dev nD) (j : Fin 2048) : (mid m c main_v3 : Vec Ideal S1x2048 .f32) (ix2 (0 : Fin 1) j) = gs m c (ix1 j) := by
  unfold mid
  after_reads_at
  rw [Function.update_of_ne (by decide)]

theorem normed_apply (c : Dev nD) (R : Fin 8192) (j : Fin 2048) :
    (normed m c : Vec Ideal S8192x2048 .f32) (ix2 R j) = xs m c (ix2 R j) * root (sqAll m c R) * gs m c (ix1 j) := by
  show scaled m c (ptOf1 R) (ix2 (⟨R.val % 1024, _⟩ : Fin 1024) j) = _
  unfold scaled
  rw [scale_apply]
  have ht : (ptOf1 R).val * 1024 + R.val % 1024 = R.val := by show R.val / 1024 * 1024 + R.val % 1024 = R.val; omega
  congr 1
  · congr 1
    · unfold xblk1
      rw [mid_of m c main_arg0 (by decide) (by decide)]
      blk_ext [index1_0]
    · unfold rblk1
      rw [← mid_v2]
      blk_ext [index1_1]
  · unfold gblk1
    rw [← mid_v3]
    blk_ext [index1_2]

end Cert.KernelIdeal.Norm

end
-- ==== Proof.Values.Equation.lean ====
/-
  The reference's result over the extended reals, element by element, and the equation: where the devices hold their blocks of the
  reference's arguments, the kernel's result on every device is its block of the reference's result.
-/
module

public import proofs.«01_k».proof.Proof.Values.Result
public import proofs.«01_k».proof.Proof.Gen.ReferenceIdeal.Run
public import Idealize.ShloMosaic.Lib.Layout

@[expose] public section

set_option maxRecDepth 16384

noncomputable section

namespace Cert.Norm

open Idealize.ShloMosaic
open Cert.KernelIdeal.Norm (ahead sqRow sqAll root normed normed_apply xs gs)

/-- The reference's arrays: `x`, whole, and `gamma`, whole. -/
abbrev Wide : Shape := ⟨2, ![8192, 8192]⟩
abbrev Long : Shape := ⟨1, ![8192]⟩

/-- The sum of squares of row `R` of the whole `x`. -/
def sqWide (X : FVec Ideal Wide .f32) (R : Fin 8192) : EReal := ∑ J : Fin 8192, X (ix2 R J) * X (ix2 R J)

section Reference
open Cert.ReferenceIdeal Cert.ReferenceIdeal.Gen

/-- The reference's result, of its two arguments. -/
def expected (X : FVec Ideal Wide .f32) (G : FVec Ideal Long .f32) : FVec Ideal Wide .f32 :=
  Host.divf (mulf (broadcastInDim S8192x8192 ![0, 1] bcast_S1x8192_S8192x8192_0_1 (broadcastInDim S1x8192 ![1] bcast_S8192_S1x8192_1 G)) X)
    (broadcastInDim S8192x8192 ![0, 1] bcast_S8192x1_S8192x8192_0_1
      (Host.sqrt (addf
        (Host.divf (broadcastInDim S8192x1 ![0] bcast_S8192_S8192x1_0
            (Host.reduceAdd (mulf X X) (constant S_ .f32 0x00000000#32) reducesTo_S8192x8192_S8192_d1 h_S_))
          (broadcastInDim S8192x1 ![] bcast_S_S8192x1 (constant S_ .f32 0x46000000#32)))
        (broadcastInDim S8192x1 ![] bcast_S_S8192x1 (constant S_ .f32 0x3727C5AC#32)))))

theorem expected_apply (X : FVec Ideal Wide .f32) (G : FVec Ideal Long .f32) (R J : Fin 8192) :
    expected X G (ix2 R J) = Ideal.div (G (ix1 J) * X (ix2 R J))
      (Ideal.sqrt (Ideal.div (sqWide X R) (Ideal.ofBits .f32 0x46000000#32) + Ideal.ofBits .f32 0x3727C5AC#32)) := by
  unfold sqWide
  pointwise [expected]

end Reference

/-! ## The scalars -/

theorem ofBits_count : Ideal.ofBits .f32 0x46000000#32 = ((8192 : ℝ) : EReal) := by
  simp [Ideal.ofBits, Ideal.ieee, -EReal.coe_mul]; norm_num

theorem ofBits_recip : Ideal.ofBits .f32 0x39000000#32 = ((1 / 8192 : ℝ) : EReal) := by
  simp [Ideal.ofBits, Ideal.ieee, -EReal.coe_mul]; norm_num

theorem ofBits_eps_pos : 0 < Ideal.ofBits .f32 0x3727C5AC#32 := by
  simp [Ideal.ofBits, Ideal.ieee, -EReal.coe_mul]

/-- A square is not negative, at the infinities too. -/
theorem sq_nonneg (x : EReal) : 0 ≤ x * x := by
  rcases le_total 0 x with h | h
  · exact mul_nonneg h h
  · rw [← neg_mul_neg]; exact mul_nonneg (EReal.neg_nonneg.2 h) (EReal.neg_nonneg.2 h)

/-- Dividing by the root of a positive number is multiplying by its reciprocal root. -/
theorem div_sqrt (a : EReal) {y : EReal} (hy : 0 < y) : Ideal.div a (Ideal.sqrt y) = a * Ideal.rsqrt y := by
  induction y with
  | bot => exact absurd hy (by simp)
  | top => rw [Ideal.sqrt_top, Ideal.rsqrt_top, Ideal.div, if_neg (by simp), EReal.inv_top]
  | coe r =>
    have hr : 0 < r := by exact_mod_cast hy
    have hs : Real.sqrt r ≠ 0 := (Real.sqrt_pos.2 hr).ne'
    rw [Ideal.sqrt_coe, if_neg hr.not_gt, Ideal.rsqrt_coe, if_neg hr.not_gt, if_neg hr.ne', Ideal.div_coe hs, one_div]

/-- The reference's quotient is the kernel's product. -/
theorem scalar_eq (g x s : EReal) (hs : 0 ≤ s) :
    Ideal.div (g * x) (Ideal.sqrt (Ideal.div s (Ideal.ofBits .f32 0x46000000#32) + Ideal.ofBits .f32 0x3727C5AC#32)) = x * root s * g := by
  have hc : (0 : EReal) ≤ ((1 / 8192 : ℝ) : EReal) := by exact_mod_cast (by norm_num : (0 : ℝ) ≤ 1 / 8192)
  rw [ofBits_count, Ideal.div_coe (by norm_num), ← ofBits_recip,
    div_sqrt _ (ofBits_eps_pos.trans_le (le_add_of_nonneg_left (mul_nonneg hs (ofBits_recip ▸ hc))))]
  show g * x * root s = x * root s * g
  rw [mul_comm g x, mul_assoc, mul_comm g, ← mul_assoc]

/-! ## The sum over the devices -/

/-- Going round the ring from any device meets every device once. -/
theorem ahead_bijective (c : Dev Cert.KernelIdeal.nD) : Function.Bijective fun k : Fin 4 => ahead k c := by revert c; decide

/-- A sum over 8192 columns is the sum over the devices of the sums over their 2048 columns. -/
theorem sum_columns (f : Fin 8192 → EReal) :
    ∑ J, f J = ∑ d : Fin 4, ∑ j : Fin 2048, f ⟨d.val * 2048 + j.val, by omega⟩ := by
  rw [← Fintype.sum_prod_type']
  refine (Fintype.sum_equiv (finProdFinEquiv (m := 4) (n := 2048)) _ f fun p => congrArg f (Fin.ext ?_)).symm
  show p.1.val * 2048 + p.2.val = p.2.val + 2048 * p.1.val
  omega

variable (m : (ℓ : Loc Cert.KernelIdeal.nD Cert.KernelIdeal.τ Cert.KernelIdeal.sig) → Buf (Elt Ideal) ℓ)
  (X : FVec Ideal Wide .f32) (G : FVec Ideal Long .f32)

/-- Column `j` of device `d`'s block is column `2048 d + j` of the whole. -/
abbrev col (d : Dev Cert.KernelIdeal.nD) (j : Fin 2048) : Fin 8192 :=
  ⟨d.val * 2048 + j.val, by have := d.isLt; change d.val < 4 at this; omega⟩

theorem block_apply (v : Wide.Idx → EReal) (d : Dev Cert.KernelIdeal.nD) (R : Fin 8192) (j : Fin 2048) :
    (Layout.block ⟨2, ![8192, 2048]⟩ Wide 1 4 d v : Vec Ideal ⟨2, ![8192, 2048]⟩ .f32) (ix2 R j) = v (ix2 R (col d j)) := by
  refine congrArg v (funext fun a => ?_)
  match a with
  | 0 => rfl
  | 1 => rfl

/-- What device `d` holds of row `R`, column `j` of its block. -/
theorem xs_apply (hx : ∀ c, xs m c = Layout.block ⟨2, ![8192, 2048]⟩ Wide 1 4 c X) (d : Dev Cert.KernelIdeal.nD) (R : Fin 8192)
    (j : Fin 2048) : xs m d (ix2 R j) = X (ix2 R (col d j)) := by
  rw [hx d]; exact block_apply X d R j

/-- What device `d` holds of column `j` of its block. -/
theorem gs_apply (hg : ∀ c, gs m c = Layout.block ⟨1, ![2048]⟩ Long 0 4 c G) (d : Dev Cert.KernelIdeal.nD) (j : Fin 2048) :
    gs m d (ix1 j) = G (ix1 (col d j)) := by
  rw [hg d]
  refine congrArg G (funext fun a => ?_)
  match a with
  | 0 => rfl

theorem sqAll_eq (hx : ∀ c, xs m c = Layout.block ⟨2, ![8192, 2048]⟩ Wide 1 4 c X) (c : Dev Cert.KernelIdeal.nD) (R : Fin 8192) :
    sqAll m c R = sqWide X R := by
  unfold sqWide
  rw [sum_columns]
  show _ = ∑ d : Fin 4, _
  rw [← (ahead_bijective c).sum_comp (fun d : Fin 4 => ∑ j : Fin 2048, X (ix2 R ⟨d.val * 2048 + j.val, _⟩) * X (ix2 R ⟨d.val * 2048 + j.val, _⟩)),
    Fin.sum_univ_four]
  unfold sqAll sqRow
  simp only [xs_apply m X hx]

/-- Every device's result is its block of the reference's. -/
theorem normed_eq (hx : ∀ c, xs m c = Layout.block ⟨2, ![8192, 2048]⟩ Wide 1 4 c X)
    (hg : ∀ c, gs m c = Layout.block ⟨1, ![2048]⟩ Long 0 4 c G) (c : Dev Cert.KernelIdeal.nD) :
    normed m c = Layout.block ⟨2, ![8192, 2048]⟩ Wide 1 4 c (expected X G) := by
  funext y
  obtain ⟨R, j, rfl⟩ : ∃ (R : Fin 8192) (j : Fin 2048), y = ix2 R j := ⟨y 0, y 1, eq_ix2 y⟩
  refine (normed_apply m c R j).trans (Eq.trans ?_ (block_apply (expected X G) c R j).symm)
  rw [expected_apply, scalar_eq _ _ (sqWide X R) (Finset.sum_nonneg fun J _ => sq_nonneg _), xs_apply m X hx, gs_apply m G hg, sqAll_eq m X hx]

end Cert.Norm

end
-- ==== Proof.lean ====
/-
  The certificate: the kernel's two readings and the reference end with their arguments unchanged and their counters at zero, and over
  the extended reals every device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Values.Equation
public import Idealize.ShloMosaic.Adequacy
public import Idealize.ShloMosaic.Init

@[expose] public section

noncomputable section

namespace Cert.Proof

open Idealize.ShloMosaic Idealize.SL.Sem Cert.Kernel

/-- The kernel, over floating-point words: it ends, its arguments unchanged and its counters at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Norm.run (F := Bits) m g)

/-- The same of the kernel over the extended reals. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Norm.run (F := Ideal) m g)

/-- The same of the reference, which has no counters. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over the extended reals every device's result is its block of the reference's. -/
theorem same : Cert.algebraic_KernelIdeal_ReferenceIdeal (hKernelIdeal := Cert.KernelIdeal.Gen.facts)
    (hReferenceIdeal := Cert.ReferenceIdeal.Gen.facts) := fun m g m' g' _ hagree =>
  ⟨Cert.Norm.expected (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.Norm.normed_eq m _ _ (fun d => (hagree d).1) (fun d => (hagree d).2) c), (h.1 c).2⟩)
      (Cert.KernelIdeal.Norm.run (F := Ideal) m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, same⟩

end Cert.Proof

end
